-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)) (v5 : (c : Dev Cert.Kernel5Ideal.nD) → Buf (Elt Ideal) ((c.tc : Thread Cert.Kernel5Ideal.nD Cert.Kernel5Ideal.τ).loc Cert.Kernel5Ideal.main_v5_5)) (v6 : (c : Dev Cert.Kernel5Ideal.nD) → Buf (Elt Ideal) ((c.tc : Thread Cert.Kernel5Ideal.nD Cert.Kernel5Ideal.τ).loc Cert.Kernel5Ideal.main_v5_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_v5_5) = v5 c
          ∧ r.2.mem ((c.tc : Thread Cert.Kernel5Ideal.nD Cert.Kernel5Ideal.τ).loc Cert.Kernel5Ideal.main_v5_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v85) = v0 c
          ∧ r.2.mem ((c.tc : Thread Cert.Reference5Ideal.nD Cert.Reference5Ideal.τ).loc Cert.Reference5Ideal.main_v91) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_v48) = v3 c
          ∧ r.2.mem ((c.tc : Thread Cert.Reference5Ideal.nD Cert.Reference5Ideal.τ).loc Cert.Reference5Ideal.main_v59) = v4 c
          ∧ r.2.mem ((c.tc : Thread Cert.Reference5Ideal.nD Cert.Reference5Ideal.τ).loc Cert.Reference5Ideal.main_v56) = v5 c
          ∧ r.2.mem ((c.tc : Thread Cert.Reference5Ideal.nD Cert.Reference5Ideal.τ).loc Cert.Reference5Ideal.main_v90) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v75) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v104) = v0 c
          ∧ r.2.mem ((c.tc : Thread Cert.Reference9Ideal.nD Cert.Reference9Ideal.τ).loc Cert.Reference9Ideal.main_v110) = v1 c
          ∧ r.2.mem ((c.tc : Thread Cert.Reference9Ideal.nD Cert.Reference9Ideal.τ).loc Cert.Reference9Ideal.main_v78) = v2 c
          ∧ r.2.mem ((c.tc : Thread Cert.Reference9Ideal.nD Cert.Reference9Ideal.τ).loc Cert.Reference9Ideal.main_v75) = v3 c
          ∧ r.2.mem ((c.tc : Thread Cert.Reference9Ideal.nD Cert.Reference9Ideal.τ).loc Cert.Reference9Ideal.main_v109) = v4 c
          ∧ r.2.mem ((c.tc : Thread Cert.Reference9Ideal.nD Cert.Reference9Ideal.τ).loc Cert.Reference9Ideal.main_v111) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v7_0)) (v1 : (c : Dev Cert.Kernel14Ideal.nD) → Buf (Elt Ideal) ((c.tc : Thread Cert.Kernel14Ideal.nD Cert.Kernel14Ideal.τ).loc Cert.Kernel14Ideal.main_v7_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7_0) = v0 c
          ∧ r.2.mem ((c.tc : Thread Cert.Kernel14Ideal.nD Cert.Kernel14Ideal.τ).loc Cert.Kernel14Ideal.main_v7_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_v11) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v9) = v1 c
          ∧ r.2.mem ((c.tc : Thread Cert.Reference15Ideal.nD Cert.Reference15Ideal.τ).loc Cert.Reference15Ideal.main_v38) = v2 c
          ∧ r.2.mem ((c.tc : Thread Cert.Reference15Ideal.nD Cert.Reference15Ideal.τ).loc Cert.Reference15Ideal.main_v39) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_v29) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_v16) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v29) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_v16) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v29) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_v16) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite5 : Cert.Pre_finite5.Facts) (hPre_finite6 : Cert.Pre_finite6.Facts) (hPre_finite9 : Cert.Pre_finite9.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite5.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_v3 : IVec S4096x4096 1) (main_v7 : IVec S1024x4096 1) (main_v10 : IVec S4096x1024 1) (main_v13 : IVec S4096x1024 1) (main_v16 : IVec S4096x1024 1) (main_v17 : FVec F S1x1024 .f32) (main_cst_4 : FVec F S_ .f32) : IVec S4096x4096 1 × IVec S1024x4096 1 × IVec S4096x1024 1 × IVec S4096x1024 1 × IVec S4096x1024 1 × IVec S1x1024 1 × IVec S1x1024 1 × IVec S1x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024 .f32 := Host.absf main_arg7
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  (main_v3, main_v7, main_v10, main_v13, main_v16, main_v19, main_v22, main_v25)

def fn {F : FTy → Type} [FloatOps F] (main_arg0 : FVec F S4096x4096 .bf16) (main_arg1 : FVec F S1024x4096 .bf16) (main_arg2 : FVec F S4096x1024 .f32) (main_arg3 : FVec F S4096x1024 .f32) (main_arg4 : FVec F S4096x1024 .f32) (main_arg5 : FVec F S1x1024 .f32) (main_arg6 : FVec F S1x1024 .f32) (main_arg7 : FVec F S1x1024 .f32) (main_arg8 : FVec F S1x1024 .f32) : IVec S4096x4096 1 × IVec S1024x4096 1 × IVec S4096x1024 1 × IVec S4096x1024 1 × IVec S4096x1024 1 × IVec S1x1024 1 × IVec S1x1024 1 × IVec S1x1024 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1x1024 .f32 := Host.absf main_arg5
  let main_cst_4 : FVec F S_ .f32 := constant S_ .f32 0x7F800000#32
  fn_part1 (F := F) main_arg6 main_arg7 main_v3 main_v7 main_v10 main_v13 main_v16 main_v17 main_cst_4
-- ==== Pre_finite6.lean ====
abbrev S4096x5760 : Shape := ⟨2, ![4096, 5760]⟩
abbrev S4x1536 : Shape := ⟨2, ![4, 1536]⟩
abbrev S1x1536 : Shape := ⟨2, ![1, 1536]⟩
abbrev S4096x1536 : Shape := ⟨2, ![4096, 1536]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x5760 .f32) (main_arg1 : FVec F S4x1536 .f32) (main_arg2 : FVec F S1x1536 .f32) (main_arg3 : FVec F S4096x1536 .f32) (main_arg4 : FVec F S4096x5760 .bf16) : IVec S4096x1536 1 :=
  let main_v0 : FVec F S4096x1536 .f32 := Host.absf main_arg3
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  main_v2
-- ==== Pre_finite9.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_arg8 : FVec F S1x1024 .f32) (main_v3 : IVec S4096x4096 1) (main_v7 : IVec S4096x1024 1) (main_v10 : IVec S4096x1024 1) (main_v13 : IVec S4096x1024 1) (main_v16 : IVec S1x1024 1) (main_v17 : FVec F S1x1024 .f32) (main_cst_4 : FVec F S_ .f32) : IVec S4096x4096 1 × IVec S4096x1024 1 × IVec S4096x1024 1 × IVec S4096x1024 1 × IVec S1x1024 1 × IVec S1x1024 1 × IVec S1x1024 1 × IVec S1x1024 1 × IVec S1x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024 .f32 := Host.absf main_arg7
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  let main_v26 : FVec F S1x1024 .f32 := Host.absf main_arg8
  let main_cst_7 : FVec F S_ .f32 := constant S_ .f32 0x7F800000#32
  let main_v27 : FVec F S1x1024 .f32 := broadcastInDim S1x1024 ![] bcast_S_S1x1024 main_cst_7
  let main_v28 : IVec S1x1024 1 := cmpf .olt main_v26 main_v27
  (main_v3, main_v7, main_v10, main_v13, main_v16, main_v19, main_v22, main_v25, main_v28)

def fn {F : FTy → Type} [FloatOps F] (main_arg0 : FVec F S4096x4096 .bf16) (main_arg1 : FVec F S4096x1024 .bf16) (main_arg2 : FVec F S4096x1024 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1x1024 .f32) : IVec S4096x4096 1 × IVec S4096x1024 1 × IVec S4096x1024 1 × IVec S4096x1024 1 × IVec S1x1024 1 × IVec S1x1024 1 × IVec S1x1024 1 × IVec S1x1024 1 × IVec S1x1024 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1x1024 .f32 := Host.absf main_arg5
  let main_cst_4 : FVec F S_ .f32 := constant S_ .f32 0x7F800000#32
  fn_part1 (F := F) main_arg6 main_arg7 main_arg8 main_v3 main_v7 main_v10 main_v13 main_v16 main_v17 main_cst_4
-- ==== Kernel.lean ====
abbrev S4096x1536 : Shape := ⟨2, ![4096, 1536]⟩
abbrev S4096x5760 : Shape := ⟨2, ![4096, 5760]⟩
abbrev S1x128 : Shape := ⟨2, ![1, 128]⟩
abbrev S1x1024 : Shape := ⟨2, ![1, 1024]⟩
abbrev S32x8x128x128 : Shape := ⟨4, ![32, 8, 128, 128]⟩
abbrev S4096x1024 : Shape := ⟨2, ![4096, 1024]⟩
abbrev S4096x128 : Shape := ⟨2, ![4096, 128]⟩
abbrev S128x1536 : Shape := ⟨2, ![128, 1536]⟩
abbrev S128x128 : Shape := ⟨2, ![128, 128]⟩
abbrev S1x8x128x128 : Shape := ⟨4, ![1, 8, 128, 128]⟩
abbrev S128x1024 : Shape := ⟨2, ![128, 1024]⟩
abbrev S8x128x128 : Shape := ⟨3, ![8, 128, 128]⟩
abbrev S128 : Shape := ⟨1, ![128]⟩
abbrev S128x1 : Shape := ⟨2, ![128, 1]⟩
abbrev S1024 : Shape := ⟨1, ![1024]⟩
abbrev S1x1 : Shape := ⟨2, ![1, 1]⟩
abbrev S1x1x128x128 : Shape := ⟨4, ![1, 1, 128, 128]⟩
abbrev S1x128x128 : Shape := ⟨3, ![1, 128, 128]⟩

abbrev nBuf : Space → Nat
  | .hbm => 16
  | .vmem => 27
  | .smem => 0
  | _ => 0

abbrev bufTy : (tb : Table) → Fin (tcTables nBuf tb) → BufTy
  | .hbm, ⟨0, _⟩ => ⟨S4096x1536, .f32⟩
  | .hbm, ⟨1, _⟩ => ⟨S4096x5760, .f32⟩
  | .hbm, ⟨2, _⟩ => ⟨S1x128, .f32⟩
  | .hbm, ⟨3, _⟩ => ⟨S1x128, .f32⟩
  | .hbm, ⟨4, _⟩ => ⟨S1x1024, .f32⟩
  | .hbm, ⟨5, _⟩ => ⟨S32x8x128x128, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1536, .f32⟩
  | .hbm, ⟨10, _⟩ => ⟨S4096x128, .f32⟩
  | .hbm, ⟨11, _⟩ => ⟨S1x128, .f32⟩
  | .hbm, ⟨12, _⟩ => ⟨S1x1024, .f32⟩
  | .hbm, ⟨13, _⟩ => ⟨S1x128, .f32⟩
  | .hbm, ⟨14, _⟩ => ⟨S4096x5760, .bf16⟩
  | .hbm, ⟨15, _⟩ => ⟨S1x1024, .f32⟩
  | .local _ .vmem, ⟨0, _⟩ => ⟨S128x1536, .f32⟩
  | .local _ .vmem, ⟨1, _⟩ => ⟨S128x1536, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x1024, .f32⟩
  | .local _ .vmem, ⟨7, _⟩ => ⟨S1x8x128x128, .f32⟩
  | .local _ .vmem, ⟨8, _⟩ => ⟨S1x8x128x128, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S1x1024, .f32⟩
  | .local _ .vmem, ⟨16, _⟩ => ⟨S128x1536, .f32⟩
  | .local _ .vmem, ⟨17, _⟩ => ⟨S128x1536, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S1x1024, .f32⟩
  | .local _ .vmem, ⟨22, _⟩ => ⟨S1x128, .f32⟩
  | .local _ .vmem, ⟨23, _⟩ => ⟨S128x1024, .bf16⟩
  | .local _ .vmem, ⟨24, _⟩ => ⟨S128x1024, .bf16⟩
  | .local _ .vmem, ⟨25, _⟩ => ⟨S1x1024, .f32⟩
  | .local _ .vmem, ⟨26, _⟩ => ⟨S8x128x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c44_i32 : BitVec 32 := 44#32
  let c0_i32 : BitVec 32 := 0#32
  ![v0.toNat, c44_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel2.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩
abbrev S8x128 : Shape := ⟨2, ![8, 128]⟩

abbrev nBuf : Space → Nat
  | .hbm => 9
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S1024x4096 : Shape := ⟨2, ![1024, 4096]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S4x1024x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | .hbm, ⟨13, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x4096 : Shape := ⟨2, ![1024, 4096]⟩
abbrev S4x1024x1024 : Shape := ⟨3, ![4, 1024, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .hbm, ⟨3, _⟩ => ⟨S4x1024x1024, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 22
  | .vmem => 23
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]
-- ==== Reference5Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 125
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1024x4096, .f32⟩
  | .hbm, ⟨59, _⟩ => ⟨S4096x4096, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x4096, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S4096x1024, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S4096, .f32⟩
  | .hbm, ⟨108, _⟩ => ⟨S4096x1, .f32⟩
  | .hbm, ⟨109, _⟩ => ⟨S4096x1024, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S_, .f32⟩
  | .hbm, ⟨122, _⟩ => ⟨S1024, .f32⟩
  | .hbm, ⟨123, _⟩ => ⟨S1x1024, .f32⟩
  | .hbm, ⟨124, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_20 : Ref sig .tc := ⟨.hbm, 111, rfl⟩
abbrev main_v81 : Ref sig .tc := ⟨.hbm, 112, rfl⟩
abbrev main_v82 : Ref sig .tc := ⟨.hbm, 113, rfl⟩
abbrev main_cst_21 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_22 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]
-- ==== Kernel6.lean ====
abbrev S4096x5760 : Shape := ⟨2, ![4096, 5760]⟩
abbrev S4x1536 : Shape := ⟨2, ![4, 1536]⟩
abbrev S1x1536 : Shape := ⟨2, ![1, 1536]⟩
abbrev S4096x1536 : Shape := ⟨2, ![4096, 1536]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S504x512 : Shape := ⟨2, ![504, 512]⟩
abbrev S512 : Shape := ⟨1, ![512]⟩

abbrev nBuf : Space → Nat
  | .hbm => 8
  | .vmem => 20
  | .smem => 0
  | _ => 0

abbrev bufTy : (tb : Table) → Fin (tcTables nBuf tb) → BufTy
  | .hbm, ⟨0, _⟩ => ⟨S4096x5760, .f32⟩
  | .hbm, ⟨1, _⟩ => ⟨S4x1536, .f32⟩
  | .hbm, ⟨2, _⟩ => ⟨S1x1536, .f32⟩
  | .hbm, ⟨3, _⟩ => ⟨S4096x1536, .f32⟩
  | .hbm, ⟨4, _⟩ => ⟨S4096x5760, .bf16⟩
  | .hbm, ⟨5, _⟩ => ⟨S4096x5760, .bf16⟩
  | .hbm, ⟨6, _⟩ => ⟨S4x1536, .f32⟩
  | .hbm, ⟨7, _⟩ => ⟨S1x1536, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S4x512, .f32⟩
  | .local _ .vmem, ⟨7, _⟩ => ⟨S4x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | .local _ .vmem, ⟨14, _⟩ => ⟨S512x512, .bf16⟩
  | .local _ .vmem, ⟨15, _⟩ => ⟨S512x512, .bf16⟩
  | .local _ .vmem, ⟨16, _⟩ => ⟨S4x512, .f32⟩
  | .local _ .vmem, ⟨17, _⟩ => ⟨S4x512, .f32⟩
  | .local _ .vmem, ⟨18, _⟩ => ⟨S1x512, .f32⟩
  | .local _ .vmem, ⟨19, _⟩ => ⟨S1x512, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.addi c2_i32_0 arg0
  let c10_i32 : BitVec 32 := 10#32
  let v2 : BitVec 32 := Scalar.select v0 v1 c10_i32
  let c0_i32 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 1 := Scalar.cmpi .slt arg0 c2_i32
  let c2_i32_0 : BitVec 32 := 2#32
  let v4 : BitVec 32 := Scalar.addi c2_i32_0 arg0
  let c10_i32 : BitVec 32 := 10#32
  let v5 : BitVec 32 := Scalar.select v3 v4 c10_i32
  let c0_i32_1 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c2_i32 : BitVec 32 := 2#32
  let v3 : BitVec 1 := Scalar.cmpi .slt arg0 c2_i32
  let c2_i32_0 : BitVec 32 := 2#32
  let v4 : BitVec 32 := Scalar.addi c2_i32_0 arg0
  let c10_i32 : BitVec 32 := 10#32
  let v5 : BitVec 32 := Scalar.select v3 v4 c10_i32
  let c0_i32 : BitVec 32 := 0#32
  ![v2.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.addi c2_i32_0 arg0
  let c10_i32 : BitVec 32 := 10#32
  let v2 : BitVec 32 := Scalar.select v0 v1 c10_i32
  let c0_i32 : BitVec 32 := 0#32
  ![arg1.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference6Ideal.lean ====
abbrev S4096x5760 : Shape := ⟨2, ![4096, 5760]⟩
abbrev S4x1536 : Shape := ⟨2, ![4, 1536]⟩
abbrev S1x1536 : Shape := ⟨2, ![1, 1536]⟩
abbrev S4096x1536 : Shape := ⟨2, ![4096, 1536]⟩
abbrev S4096x1024 : Shape := ⟨2, ![4096, 1024]⟩
abbrev S4096x512 : Shape := ⟨2, ![4096, 512]⟩
abbrev S_ : Shape := ⟨0, ![]⟩
abbrev S3x1536 : Shape := ⟨2, ![3, 1536]⟩
abbrev S4099x1536 : Shape := ⟨2, ![4099, 1536]⟩
abbrev S1536 : Shape := ⟨1, ![1536]⟩
abbrev S4096x3072 : Shape := ⟨2, ![4096, 3072]⟩
abbrev S4096x128 : Shape := ⟨2, ![4096, 128]⟩

abbrev nBuf : Space → Nat
  | .hbm => 112
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S4x1536, .f32⟩
  | .hbm, ⟨2, _⟩ => ⟨S1x1536, .f32⟩
  | .hbm, ⟨3, _⟩ => ⟨S4096x1536, .f32⟩
  | .hbm, ⟨4, _⟩ => ⟨S4096x5760, .bf16⟩
  | .hbm, ⟨5, _⟩ => ⟨S4096x1024, .f32⟩
  | .hbm, ⟨6, _⟩ => ⟨S4096x512, .f32⟩
  | .hbm, ⟨7, _⟩ => ⟨S4096x1536, .f32⟩
  | .hbm, ⟨8, _⟩ => ⟨S_, .f32⟩
  | .hbm, ⟨9, _⟩ => ⟨S3x1536, .f32⟩
  | .hbm, ⟨10, _⟩ => ⟨S4099x1536, .f32⟩
  | .hbm, ⟨11, _⟩ => ⟨S_, .f32⟩
  | .hbm, ⟨12, _⟩ => ⟨S3x1536, .f32⟩
  | .hbm, ⟨13, _⟩ => ⟨S1x1536, .f32⟩
  | .hbm, ⟨14, _⟩ => ⟨S4096x1536, .f32⟩
  | .hbm, ⟨15, _⟩ => ⟨S4096x1536, .f32⟩
  | .hbm, ⟨16, _⟩ => ⟨S4096x1536, .f32⟩
  | .hbm, ⟨17, _⟩ => ⟨S_, .f32⟩
  | .hbm, ⟨18, _⟩ => ⟨S4096x1536, .f32⟩
  | .hbm, ⟨19, _⟩ => ⟨S4096x1536, .f32⟩
  | .hbm, ⟨20, _⟩ => ⟨S1x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S4096x1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S1x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S_, .f32⟩
  | .hbm, ⟨40, _⟩ => ⟨S4096x1536, .f32⟩
  | .hbm, ⟨41, _⟩ => ⟨S4096x1536, .f32⟩
  | .hbm, ⟨42, _⟩ => ⟨S_, .f32⟩
  | .hbm, ⟨43, _⟩ => ⟨S4096x1536, .f32⟩
  | .hbm, ⟨44, _⟩ => ⟨S4096x1536, .f32⟩
  | .hbm, ⟨45, _⟩ => ⟨S_, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S4096x1536, .f32⟩
  | .hbm, ⟨53, _⟩ => ⟨S4096x1536, .f32⟩
  | .hbm, ⟨54, _⟩ => ⟨S_, .f32⟩
  | .hbm, ⟨55, _⟩ => ⟨S1536, .f32⟩
  | .hbm, ⟨56, _⟩ => ⟨S1x1536, .f32⟩
  | .hbm, ⟨57, _⟩ => ⟨S4096x1536, .f32⟩
  | .hbm, ⟨58, _⟩ => ⟨S4096x1536, .f32⟩
  | .hbm, ⟨59, _⟩ => ⟨S4096x1536, .f32⟩
  | .hbm, ⟨60, _⟩ => ⟨S_, .f32⟩
  | .hbm, ⟨61, _⟩ => ⟨S1536, .f32⟩
  | .hbm, ⟨62, _⟩ => ⟨S1x1536, .f32⟩
  | .hbm, ⟨63, _⟩ => ⟨S_, .f32⟩
  | .hbm, ⟨64, _⟩ => ⟨S4099x1536, .f32⟩
  | .hbm, ⟨65, _⟩ => ⟨S_, .f32⟩
  | .hbm, ⟨66, _⟩ => ⟨S4x1536, .f32⟩
  | .hbm, ⟨67, _⟩ => ⟨S4096x1536, .f32⟩
  | .hbm, ⟨68, _⟩ => ⟨S4096x1536, .f32⟩
  | .hbm, ⟨69, _⟩ => ⟨S4096x1536, .f32⟩
  | .hbm, ⟨70, _⟩ => ⟨S_, .f32⟩
  | .hbm, ⟨71, _⟩ => ⟨S1536, .f32⟩
  | .hbm, ⟨72, _⟩ => ⟨S1x1536, .f32⟩
  | .hbm, ⟨73, _⟩ => ⟨S_, .f32⟩
  | .hbm, ⟨74, _⟩ => ⟨S4099x1536, .f32⟩
  | .hbm, ⟨75, _⟩ => ⟨S4099x1536, .f32⟩
  | .hbm, ⟨76, _⟩ => ⟨S_, .f32⟩
  | .hbm, ⟨77, _⟩ => ⟨S4x1536, .f32⟩
  | .hbm, ⟨78, _⟩ => ⟨S4x1536, .f32⟩
  | .hbm, ⟨79, _⟩ => ⟨S4096x1536, .f32⟩
  | .hbm, ⟨80, _⟩ => ⟨S4096x1536, .f32⟩
  | .hbm, ⟨81, _⟩ => ⟨S4096x1536, .f32⟩
  | .hbm, ⟨82, _⟩ => ⟨S_, .f32⟩
  | .hbm, ⟨83, _⟩ => ⟨S1536, .f32⟩
  | .hbm, ⟨84, _⟩ => ⟨S1x1536, .f32⟩
  | .hbm, ⟨85, _⟩ => ⟨S_, .f32⟩
  | .hbm, ⟨86, _⟩ => ⟨S4099x1536, .f32⟩
  | .hbm, ⟨87, _⟩ => ⟨S4099x1536, .f32⟩
  | .hbm, ⟨88, _⟩ => ⟨S_, .f32⟩
  | .hbm, ⟨89, _⟩ => ⟨S4x1536, .f32⟩
  | .hbm, ⟨90, _⟩ => ⟨S4x1536, .f32⟩
  | .hbm, ⟨91, _⟩ => ⟨S4096x1536, .f32⟩
  | .hbm, ⟨92, _⟩ => ⟨S4096x1536, .f32⟩
  | .hbm, ⟨93, _⟩ => ⟨S4096x1536, .f32⟩
  | .hbm, ⟨94, _⟩ => ⟨S_, .f32⟩
  | .hbm, ⟨95, _⟩ => ⟨S1536, .f32⟩
  | .hbm, ⟨96, _⟩ => ⟨S1x1536, .f32⟩
  | .hbm, ⟨97, _⟩ => ⟨S_, .f32⟩
  | .hbm, ⟨98, _⟩ => ⟨S4099x1536, .f32⟩
  | .hbm, ⟨99, _⟩ => ⟨S4099x1536, .f32⟩
  | .hbm, ⟨100, _⟩ => ⟨S_, .f32⟩
  | .hbm, ⟨101, _⟩ => ⟨S4x1536, .f32⟩
  | .hbm, ⟨102, _⟩ => ⟨S4x1536, .f32⟩
  | .hbm, ⟨103, _⟩ => ⟨S3x1536, .f32⟩
  | .hbm, ⟨104, _⟩ => ⟨S4096x1536, .f32⟩
  | .hbm, ⟨105, _⟩ => ⟨S4096x1536, .bf16⟩
  | .hbm, ⟨106, _⟩ => ⟨S4096x1024, .bf16⟩
  | .hbm, ⟨107, _⟩ => ⟨S4096x1024, .bf16⟩
  | .hbm, ⟨108, _⟩ => ⟨S4096x3072, .bf16⟩
  | .hbm, ⟨109, _⟩ => ⟨S4096x512, .bf16⟩
  | .hbm, ⟨110, _⟩ => ⟨S4096x128, .bf16⟩
  | .hbm, ⟨111, _⟩ => ⟨S4096x5760, .bf16⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== Reference8Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1024x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x128, .f32⟩
  | .local _ .vmem, ⟨20, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]
-- ==== Reference9Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S4096x4096, .bf16⟩
  | 1 => ⟨S4096x1024, .bf16⟩
  | 2 => ⟨S4096x1024, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S_, .f32⟩
  | 27 => ⟨S4096x1, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x4096, .f32⟩
  | 40 => ⟨S4096x1024, .f32⟩
  | 41 => ⟨S4096x1024, .f32⟩
  | 42 => ⟨S_, .f32⟩
  | 43 => ⟨S1x1024, .f32⟩
  | 44 => ⟨S1x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S_, .f32⟩
  | 69 => ⟨S4096x1, .f32⟩
  | 70 => ⟨S4096x1, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096, .f32⟩
  | 89 => ⟨S_, .f32⟩
  | 90 => ⟨S4096, .f32⟩
  | 91 => ⟨S4096, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1024, .f32⟩
  | 120 => ⟨S4096x1, .f32⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x4096, .bf16⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S4096x1024, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S1024, .f32⟩
  | 22 => ⟨S1x1024, .f32⟩
  | 23 => ⟨S4096x1024, .bf16⟩
  | 24 => ⟨S1x128, .f32⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_cst_16 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_cst_18 : Ref sig .tc := ⟨.hbm, 96, rfl⟩
abbrev main_cst_19 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_21 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_23 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_24 : Ref sig .tc := ⟨.hbm, 122, rfl⟩
abbrev main_v88 : Ref sig .tc := ⟨.hbm, 123, rfl⟩
abbrev main_v89 : Ref sig .tc := ⟨.hbm, 124, rfl⟩
abbrev main_cst_25 : Ref sig .tc := ⟨.hbm, 125, rfl⟩
abbrev main_v90 : Ref sig .tc := ⟨.hbm, 126, rfl⟩
abbrev main_v91 : Ref sig .tc := ⟨.hbm, 127, rfl⟩
abbrev main_cst_26 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_27 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_28 : Ref sig .tc := ⟨.hbm, 138, rfl⟩
abbrev main_v100 : Ref sig .tc := ⟨.hbm, 139, rfl⟩
abbrev main_v101 : Ref sig .tc := ⟨.hbm, 140, rfl⟩
abbrev main_cst_29 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_30 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩

abbrev nD : Nat := 1
abbrev τ : Topo := Topo.v7x

variable {F : FTy → Type} [FloatOps F]
-- ==== Kernel10.lean ====
abbrev S4096x2048 : Shape := ⟨2, ![4096, 2048]⟩
abbrev S4096x1024 : Shape := ⟨2, ![4096, 1024]⟩
abbrev S4x512x1024 : Shape := ⟨3, ![4, 512, 1024]⟩
abbrev S4096x512 : Shape := ⟨2, ![4096, 512]⟩
abbrev S1x512x1024 : Shape := ⟨3, ![1, 512, 1024]⟩
abbrev S8x128 : Shape := ⟨2, ![8, 128]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | .hbm, ⟨10, _⟩ => ⟨S4x512x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x5760 : Shape := ⟨2, ![4096, 5760]⟩
abbrev S4096x1024 : Shape := ⟨2, ![4096, 1024]⟩
abbrev S1x1024 : Shape := ⟨2, ![1, 1024]⟩
abbrev S_ : Shape := ⟨0, ![]⟩
abbrev S5760x1024 : Shape := ⟨2, ![5760, 1024]⟩
abbrev S4096x1152 : Shape := ⟨2, ![4096, 1152]⟩
abbrev S1152x1024 : Shape := ⟨2, ![1152, 1024]⟩
abbrev S8x128 : Shape := ⟨2, ![8, 128]⟩

abbrev nBuf : Space → Nat
  | .hbm => 13
  | .vmem => 6
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S5760x1024, .bf16⟩
  | .local _ .vmem, ⟨0, _⟩ => ⟨S4096x1152, .bf16⟩
  | .local _ .vmem, ⟨1, _⟩ => ⟨S4096x1152, .bf16⟩
  | .local _ .vmem, ⟨2, _⟩ => ⟨S4096x1024, .bf16⟩
  | .local _ .vmem, ⟨3, _⟩ => ⟨S1152x1024, .bf16⟩
  | .local _ .vmem, ⟨4, _⟩ => ⟨S1152x1024, .bf16⟩
  | .local _ .vmem, ⟨5, _⟩ => ⟨S8x128, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x5760 : Shape := ⟨2, ![4096, 5760]⟩
abbrev S4096x1024 : Shape := ⟨2, ![4096, 1024]⟩
abbrev S1x1024 : Shape := ⟨2, ![1, 1024]⟩
abbrev S_ : Shape := ⟨0, ![]⟩
abbrev S5760x1024 : Shape := ⟨2, ![5760, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S5760x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x5760, .f32⟩
  | .hbm, ⟨14, _⟩ => ⟨S4096x5760, .f32⟩
  | .hbm, ⟨15, _⟩ => ⟨S5760x1024, .f32⟩
  | .hbm, ⟨16, _⟩ => ⟨S5760x1024, .bf16⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S5760x1024 : Shape := ⟨2, ![5760, 1024]⟩
abbrev S_ : Shape := ⟨0, ![]⟩
abbrev S4096x5760 : Shape := ⟨2, ![4096, 5760]⟩
abbrev S1024x1024 : Shape := ⟨2, ![1024, 1024]⟩
abbrev S1152x1024 : Shape := ⟨2, ![1152, 1024]⟩
abbrev S1024x1152 : Shape := ⟨2, ![1024, 1152]⟩
abbrev S8x128 : Shape := ⟨2, ![8, 128]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S5760x1024, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x5760, .f32⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1152, .f32⟩
  | .local _ .vmem, ⟨5, _⟩ => ⟨S1024x1152, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1x1024 : Shape := ⟨2, ![1, 1024]⟩
abbrev S5760x1024 : Shape := ⟨2, ![5760, 1024]⟩
abbrev S_ : Shape := ⟨0, ![]⟩
abbrev S4096x5760 : Shape := ⟨2, ![4096, 5760]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S5760x1024, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S5760x1024, .f32⟩
  | .hbm, ⟨12, _⟩ => ⟨S4096x5760, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096x4096 : Shape := ⟨2, ![4096, 4096]⟩
abbrev S1024x1024 : Shape := ⟨2, ![1024, 1024]⟩
abbrev S8x128 : Shape := ⟨2, ![8, 128]⟩

abbrev nBuf : Space → Nat
  | .hbm => 14
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x4096, .bf16⟩
  | .hbm, ⟨13, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x4096, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel15.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024x4096 : Shape := ⟨2, ![1024, 4096]⟩
abbrev S512x2048 : Shape := ⟨2, ![512, 2048]⟩
abbrev S512x1024 : Shape := ⟨2, ![512, 1024]⟩
abbrev S1024x512 : Shape := ⟨2, ![1024, 512]⟩
abbrev S8x128 : Shape := ⟨2, ![8, 128]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1024x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | .local _ .vmem, ⟨18, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference15Ideal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x2048, .f32⟩
  | .hbm, ⟨9, _⟩ => ⟨S2048x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1024x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel17.lean ====
abbrev S1x1024x1536 : Shape := ⟨3, ![1, 1024, 1536]⟩
abbrev S1024x1536 : Shape := ⟨2, ![1024, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .hbm, ⟨7, _⟩ => ⟨S1x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1x1024x1536 : Shape := ⟨3, ![1, 1024, 1536]⟩
abbrev S1024x1536 : Shape := ⟨2, ![1024, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S_, .f32⟩
  | .hbm, ⟨7, _⟩ => ⟨S1x1024x1536, .f32⟩
  | .hbm, ⟨8, _⟩ => ⟨S1x1024x1536, .f32⟩
  | .hbm, ⟨9, _⟩ => ⟨S_, .f32⟩
  | .hbm, ⟨10, _⟩ => ⟨S1x1024x1536, .f32⟩
  | .hbm, ⟨11, _⟩ => ⟨S1x1024x1536, .f32⟩
  | .hbm, ⟨12, _⟩ => ⟨S1x1024x1536, .f32⟩
  | .hbm, ⟨13, _⟩ => ⟨S_, .f32⟩
  | .hbm, ⟨14, _⟩ => ⟨S1x1024x1536, .f32⟩
  | .hbm, ⟨15, _⟩ => ⟨S1x1024x1536, .f32⟩
  | .hbm, ⟨16, _⟩ => ⟨S1x1024x1536, .f32⟩
  | .hbm, ⟨17, _⟩ => ⟨S_, .f32⟩
  | .hbm, ⟨18, _⟩ => ⟨S1x1024x1536, .f32⟩
  | .hbm, ⟨19, _⟩ => ⟨S1x1024x1536, .f32⟩
  | .hbm, ⟨20, _⟩ => ⟨S1x1024x1536, .f32⟩
  | .hbm, ⟨21, _⟩ => ⟨S_, .f32⟩
  | .hbm, ⟨22, _⟩ => ⟨S1x1024x1536, .f32⟩
  | .hbm, ⟨23, _⟩ => ⟨S1x1024x1536, .f32⟩
  | .hbm, ⟨24, _⟩ => ⟨S_, .f32⟩
  | .hbm, ⟨25, _⟩ => ⟨S1x1024x1536, .f32⟩
  | .hbm, ⟨26, _⟩ => ⟨S1x1024x1536, .f32⟩
  | .hbm, ⟨27, _⟩ => ⟨S1x1024x1536, .f32⟩
  | .hbm, ⟨28, _⟩ => ⟨S_, .f32⟩
  | .hbm, ⟨29, _⟩ => ⟨S1x1024x1536, .f32⟩
  | .hbm, ⟨30, _⟩ => ⟨S1x1024x1536, .f32⟩
  | .hbm, ⟨31, _⟩ => ⟨S1x1024x1536, .f32⟩
  | .hbm, ⟨32, _⟩ => ⟨S_, .f32⟩
  | .hbm, ⟨33, _⟩ => ⟨S1x1024x1536, .f32⟩
  | .hbm, ⟨34, _⟩ => ⟨S1x1024x1536, .f32⟩
  | .hbm, ⟨35, _⟩ => ⟨S1x1024x1536, .f32⟩
  | .hbm, ⟨36, _⟩ => ⟨S_, .f32⟩
  | .hbm, ⟨37, _⟩ => ⟨S1x1024x1536, .f32⟩
  | .hbm, ⟨38, _⟩ => ⟨S1x1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel18.lean ====
abbrev S1x1416x1024 : Shape := ⟨3, ![1, 1416, 1024]⟩
abbrev S1416x512 : Shape := ⟨2, ![1416, 512]⟩
abbrev S_ : Shape := ⟨0, ![]⟩
abbrev S1 : Shape := ⟨1, ![1]⟩
abbrev S1x472x512 : Shape := ⟨3, ![1, 472, 512]⟩
abbrev S472x512 : Shape := ⟨2, ![472, 512]⟩

abbrev nBuf : Space → Nat
  | .hbm => 11
  | .vmem => 18
  | .smem => 1
  | _ => 0

abbrev bufTy : (tb : Table) → Fin (tcTables nBuf tb) → BufTy
  | .hbm, ⟨0, _⟩ => ⟨S1x1416x1024, .f32⟩
  | .hbm, ⟨1, _⟩ => ⟨S1416x512, .f32⟩
  | .hbm, ⟨2, _⟩ => ⟨S1416x512, .f32⟩
  | .hbm, ⟨3, _⟩ => ⟨S1x1416x1024, .f32⟩
  | .hbm, ⟨4, _⟩ => ⟨S1x1416x1024, .f32⟩
  | .hbm, ⟨5, _⟩ => ⟨S_, .i32⟩
  | .hbm, ⟨6, _⟩ => ⟨S1, .i32⟩
  | .hbm, ⟨7, _⟩ => ⟨S1x1416x1024, .f32⟩
  | .hbm, ⟨8, _⟩ => ⟨S1x1416x1024, .f32⟩
  | .hbm, ⟨9, _⟩ => ⟨S1x1416x1024, .f32⟩
  | .hbm, ⟨10, _⟩ => ⟨S1x1416x1024, .f32⟩
  | .local _ .vmem, ⟨0, _⟩ => ⟨S1x472x512, .f32⟩
  | .local _ .vmem, ⟨1, _⟩ => ⟨S1x472x512, .f32⟩
  | .local _ .vmem, ⟨2, _⟩ => ⟨S472x512, .f32⟩
  | .local _ .vmem, ⟨3, _⟩ => ⟨S472x512, .f32⟩
  | .local _ .vmem, ⟨4, _⟩ => ⟨S472x512, .f32⟩
  | .local _ .vmem, ⟨5, _⟩ => ⟨S472x512, .f32⟩
  | .local _ .vmem, ⟨6, _⟩ => ⟨S1x472x512, .f32⟩
  | .local _ .vmem, ⟨7, _⟩ => ⟨S1x472x512, .f32⟩
  | .local _ .vmem, ⟨8, _⟩ => ⟨S1x472x512, .f32⟩
  | .local _ .vmem, ⟨9, _⟩ => ⟨S1x472x512, .f32⟩
  | .local _ .vmem, ⟨10, _⟩ => ⟨S1x472x512, .f32⟩
  | .local _ .vmem, ⟨11, _⟩ => ⟨S1x472x512, .f32⟩
  | .local _ .vmem, ⟨12, _⟩ => ⟨S1x472x512, .f32⟩
  | .local _ .vmem, ⟨13, _⟩ => ⟨S1x472x512, .f32⟩
  | .local _ .vmem, ⟨14, _⟩ => ⟨S1x472x512, .f32⟩
  | .local _ .vmem, ⟨15, _⟩ => ⟨S1x472x512, .f32⟩
  | .local _ .vmem, ⟨16, _⟩ => ⟨S1x472x512, .f32⟩
  | .local _ .vmem, ⟨17, _⟩ => ⟨S1x472x512, .f32⟩
  | .local _ .smem, ⟨0, _⟩ => ⟨S1, .i32⟩
  | _, _ => ⟨S1x1416x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![3, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x472x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S472x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S472x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x472x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x472x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x472x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x472x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x472x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x472x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference18Ideal.lean ====
abbrev S1x1416x1024 : Shape := ⟨3, ![1, 1416, 1024]⟩
abbrev S1416x512 : Shape := ⟨2, ![1416, 512]⟩
abbrev S_ : Shape := ⟨0, ![]⟩
abbrev S1416x1024 : Shape := ⟨2, ![1416, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x1416x1024, .f32⟩
  | .hbm, ⟨1, _⟩ => ⟨S1416x512, .f32⟩
  | .hbm, ⟨2, _⟩ => ⟨S1416x512, .f32⟩
  | .hbm, ⟨3, _⟩ => ⟨S1x1416x1024, .f32⟩
  | .hbm, ⟨4, _⟩ => ⟨S1x1416x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1416x512, .f32⟩
  | .hbm, ⟨9, _⟩ => ⟨S_, .i32⟩
  | .hbm, ⟨10, _⟩ => ⟨S_, .i1⟩
  | .hbm, ⟨11, _⟩ => ⟨S1416x512, .f32⟩
  | .hbm, ⟨12, _⟩ => ⟨S1416x1024, .f32⟩
  | .hbm, ⟨13, _⟩ => ⟨S1x1416x1024, .f32⟩
  | .hbm, ⟨14, _⟩ => ⟨S_, .f32⟩
  | .hbm, ⟨15, _⟩ => ⟨S1x1416x1024, .f32⟩
  | .hbm, ⟨16, _⟩ => ⟨S1x1416x1024, .f32⟩
  | .hbm, ⟨17, _⟩ => ⟨S_, .f32⟩
  | .hbm, ⟨18, _⟩ => ⟨S1x1416x1024, .f32⟩
  | .hbm, ⟨19, _⟩ => ⟨S1x1416x1024, .f32⟩
  | .hbm, ⟨20, _⟩ => ⟨S1x1416x1024, .f32⟩
  | .hbm, ⟨21, _⟩ => ⟨S_, .f32⟩
  | .hbm, ⟨22, _⟩ => ⟨S1x1416x1024, .f32⟩
  | .hbm, ⟨23, _⟩ => ⟨S1x1416x1024, .f32⟩
  | .hbm, ⟨24, _⟩ => ⟨S1x1416x1024, .f32⟩
  | .hbm, ⟨25, _⟩ => ⟨S_, .f32⟩
  | .hbm, ⟨26, _⟩ => ⟨S1x1416x1024, .f32⟩
  | .hbm, ⟨27, _⟩ => ⟨S1x1416x1024, .f32⟩
  | .hbm, ⟨28, _⟩ => ⟨S1x1416x1024, .f32⟩
  | .hbm, ⟨29, _⟩ => ⟨S_, .f32⟩
  | .hbm, ⟨30, _⟩ => ⟨S1x1416x1024, .f32⟩
  | .hbm, ⟨31, _⟩ => ⟨S1x1416x1024, .f32⟩
  | .hbm, ⟨32, _⟩ => ⟨S_, .f32⟩
  | .hbm, ⟨33, _⟩ => ⟨S1x1416x1024, .f32⟩
  | .hbm, ⟨34, _⟩ => ⟨S1x1416x1024, .f32⟩
  | .hbm, ⟨35, _⟩ => ⟨S1x1416x1024, .f32⟩
  | .hbm, ⟨36, _⟩ => ⟨S_, .f32⟩
  | .hbm, ⟨37, _⟩ => ⟨S1x1416x1024, .f32⟩
  | .hbm, ⟨38, _⟩ => ⟨S1x1416x1024, .f32⟩
  | .hbm, ⟨39, _⟩ => ⟨S1x1416x1024, .f32⟩
  | .hbm, ⟨40, _⟩ => ⟨S_, .f32⟩
  | .hbm, ⟨41, _⟩ => ⟨S1x1416x1024, .f32⟩
  | .hbm, ⟨42, _⟩ => ⟨S1x1416x1024, .f32⟩
  | .hbm, ⟨43, _⟩ => ⟨S1x1416x1024, .f32⟩
  | .hbm, ⟨44, _⟩ => ⟨S_, .f32⟩
  | .hbm, ⟨45, _⟩ => ⟨S1x1416x1024, .f32⟩
  | .hbm, ⟨46, _⟩ => ⟨S1x1416x1024, .f32⟩
  | _, _ => ⟨S1x1416x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel19.lean ====
abbrev S1024x8 : Shape := ⟨2, ![1024, 8]⟩
abbrev S8x1536 : Shape := ⟨2, ![8, 1536]⟩
abbrev S1024x1536 : Shape := ⟨2, ![1024, 1536]⟩
abbrev S256x8 : Shape := ⟨2, ![256, 8]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 3
  | .vmem => 5
  | .smem => 0
  | _ => 0

abbrev bufTy : (tb : Table) → Fin (tcTables nBuf tb) → BufTy
  | .hbm, ⟨0, _⟩ => ⟨S1024x8, .f32⟩
  | .hbm, ⟨1, _⟩ => ⟨S8x1536, .f32⟩
  | .hbm, ⟨2, _⟩ => ⟨S1024x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S1024x8 : Shape := ⟨2, ![1024, 8]⟩
abbrev S8x1536 : Shape := ⟨2, ![8, 1536]⟩
abbrev S_ : Shape := ⟨0, ![]⟩
abbrev S1024x1536 : Shape := ⟨2, ![1024, 1536]⟩
abbrev S8x1024 : Shape := ⟨2, ![8, 1024]⟩
abbrev S1536x1024 : Shape := ⟨2, ![1536, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S8x1536, .f32⟩
  | .hbm, ⟨2, _⟩ => ⟨S_, .f32⟩
  | .hbm, ⟨3, _⟩ => ⟨S1024x1536, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1536, .f32⟩
  | .hbm, ⟨15, _⟩ => ⟨S1536x1024, .f32⟩
  | .hbm, ⟨16, _⟩ => ⟨S1024x1536, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel20.lean ====
abbrev S1x4x384 : Shape := ⟨3, ![1, 4, 384]⟩
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .hbm, ⟨7, _⟩ => ⟨S1x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1x4x384 : Shape := ⟨3, ![1, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S_, .f32⟩
  | .hbm, ⟨7, _⟩ => ⟨S1x4x384, .f32⟩
  | .hbm, ⟨8, _⟩ => ⟨S1x4x384, .f32⟩
  | .hbm, ⟨9, _⟩ => ⟨S_, .f32⟩
  | .hbm, ⟨10, _⟩ => ⟨S1x4x384, .f32⟩
  | .hbm, ⟨11, _⟩ => ⟨S1x4x384, .f32⟩
  | .hbm, ⟨12, _⟩ => ⟨S1x4x384, .f32⟩
  | .hbm, ⟨13, _⟩ => ⟨S_, .f32⟩
  | .hbm, ⟨14, _⟩ => ⟨S1x4x384, .f32⟩
  | .hbm, ⟨15, _⟩ => ⟨S1x4x384, .f32⟩
  | .hbm, ⟨16, _⟩ => ⟨S1x4x384, .f32⟩
  | .hbm, ⟨17, _⟩ => ⟨S_, .f32⟩
  | .hbm, ⟨18, _⟩ => ⟨S1x4x384, .f32⟩
  | .hbm, ⟨19, _⟩ => ⟨S1x4x384, .f32⟩
  | .hbm, ⟨20, _⟩ => ⟨S1x4x384, .f32⟩
  | .hbm, ⟨21, _⟩ => ⟨S_, .f32⟩
  | .hbm, ⟨22, _⟩ => ⟨S1x4x384, .f32⟩
  | .hbm, ⟨23, _⟩ => ⟨S1x4x384, .f32⟩
  | .hbm, ⟨24, _⟩ => ⟨S_, .f32⟩
  | .hbm, ⟨25, _⟩ => ⟨S1x4x384, .f32⟩
  | .hbm, ⟨26, _⟩ => ⟨S1x4x384, .f32⟩
  | .hbm, ⟨27, _⟩ => ⟨S1x4x384, .f32⟩
  | .hbm, ⟨28, _⟩ => ⟨S_, .f32⟩
  | .hbm, ⟨29, _⟩ => ⟨S1x4x384, .f32⟩
  | .hbm, ⟨30, _⟩ => ⟨S1x4x384, .f32⟩
  | .hbm, ⟨31, _⟩ => ⟨S1x4x384, .f32⟩
  | .hbm, ⟨32, _⟩ => ⟨S_, .f32⟩
  | .hbm, ⟨33, _⟩ => ⟨S1x4x384, .f32⟩
  | .hbm, ⟨34, _⟩ => ⟨S1x4x384, .f32⟩
  | .hbm, ⟨35, _⟩ => ⟨S1x4x384, .f32⟩
  | .hbm, ⟨36, _⟩ => ⟨S_, .f32⟩
  | .hbm, ⟨37, _⟩ => ⟨S1x4x384, .f32⟩
  | .hbm, ⟨38, _⟩ => ⟨S1x4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel21.lean ====
abbrev S1x512x1024 : Shape := ⟨3, ![1, 512, 1024]⟩
abbrev S256x1024 : Shape := ⟨2, ![256, 1024]⟩
abbrev S_ : Shape := ⟨0, ![]⟩
abbrev S1 : Shape := ⟨1, ![1]⟩
abbrev S1x256x1024 : Shape := ⟨3, ![1, 256, 1024]⟩

abbrev nBuf : Space → Nat
  | .hbm => 11
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S_, .i32⟩
  | .hbm, ⟨6, _⟩ => ⟨S1, .i32⟩
  | .hbm, ⟨7, _⟩ => ⟨S1x512x1024, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference21Ideal.lean ====
abbrev S1x512x1024 : Shape := ⟨3, ![1, 512, 1024]⟩
abbrev S256x1024 : Shape := ⟨2, ![256, 1024]⟩
abbrev S_ : Shape := ⟨0, ![]⟩
abbrev S512x1024 : Shape := ⟨2, ![512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S256x1024, .f32⟩
  | .hbm, ⟨9, _⟩ => ⟨S_, .i32⟩
  | .hbm, ⟨10, _⟩ => ⟨S_, .i1⟩
  | .hbm, ⟨11, _⟩ => ⟨S256x1024, .f32⟩
  | .hbm, ⟨12, _⟩ => ⟨S512x1024, .f32⟩
  | .hbm, ⟨13, _⟩ => ⟨S1x512x1024, .f32⟩
  | .hbm, ⟨14, _⟩ => ⟨S_, .f32⟩
  | .hbm, ⟨15, _⟩ => ⟨S1x512x1024, .f32⟩
  | .hbm, ⟨16, _⟩ => ⟨S1x512x1024, .f32⟩
  | .hbm, ⟨17, _⟩ => ⟨S_, .f32⟩
  | .hbm, ⟨18, _⟩ => ⟨S1x512x1024, .f32⟩
  | .hbm, ⟨19, _⟩ => ⟨S1x512x1024, .f32⟩
  | .hbm, ⟨20, _⟩ => ⟨S1x512x1024, .f32⟩
  | .hbm, ⟨21, _⟩ => ⟨S_, .f32⟩
  | .hbm, ⟨22, _⟩ => ⟨S1x512x1024, .f32⟩
  | .hbm, ⟨23, _⟩ => ⟨S1x512x1024, .f32⟩
  | .hbm, ⟨24, _⟩ => ⟨S1x512x1024, .f32⟩
  | .hbm, ⟨25, _⟩ => ⟨S_, .f32⟩
  | .hbm, ⟨26, _⟩ => ⟨S1x512x1024, .f32⟩
  | .hbm, ⟨27, _⟩ => ⟨S1x512x1024, .f32⟩
  | .hbm, ⟨28, _⟩ => ⟨S1x512x1024, .f32⟩
  | .hbm, ⟨29, _⟩ => ⟨S_, .f32⟩
  | .hbm, ⟨30, _⟩ => ⟨S1x512x1024, .f32⟩
  | .hbm, ⟨31, _⟩ => ⟨S1x512x1024, .f32⟩
  | .hbm, ⟨32, _⟩ => ⟨S_, .f32⟩
  | .hbm, ⟨33, _⟩ => ⟨S1x512x1024, .f32⟩
  | .hbm, ⟨34, _⟩ => ⟨S1x512x1024, .f32⟩
  | .hbm, ⟨35, _⟩ => ⟨S1x512x1024, .f32⟩
  | .hbm, ⟨36, _⟩ => ⟨S_, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S_, .f32⟩
  | .hbm, ⟨41, _⟩ => ⟨S1x512x1024, .f32⟩
  | .hbm, ⟨42, _⟩ => ⟨S1x512x1024, .f32⟩
  | .hbm, ⟨43, _⟩ => ⟨S1x512x1024, .f32⟩
  | .hbm, ⟨44, _⟩ => ⟨S_, .f32⟩
  | .hbm, ⟨45, _⟩ => ⟨S1x512x1024, .f32⟩
  | .hbm, ⟨46, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel22.lean ====
abbrev S1x1024x1024 : Shape := ⟨3, ![1, 1024, 1024]⟩
abbrev S512x1024 : Shape := ⟨2, ![512, 1024]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 11
  | .vmem => 18
  | .smem => 1
  | _ => 0

abbrev bufTy : (tb : Table) → Fin (tcTables nBuf tb) → BufTy
  | .hbm, ⟨0, _⟩ => ⟨S1x1024x1024, .f32⟩
  | .hbm, ⟨1, _⟩ => ⟨S512x1024, .f32⟩
  | .hbm, ⟨2, _⟩ => ⟨S512x1024, .f32⟩
  | .hbm, ⟨3, _⟩ => ⟨S1x1024x1024, .f32⟩
  | .hbm, ⟨4, _⟩ => ⟨S1x1024x1024, .f32⟩
  | .hbm, ⟨5, _⟩ => ⟨S_, .i32⟩
  | .hbm, ⟨6, _⟩ => ⟨S1, .i32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference22Ideal.lean ====
abbrev S1x1024x1024 : Shape := ⟨3, ![1, 1024, 1024]⟩
abbrev S512x1024 : Shape := ⟨2, ![512, 1024]⟩
abbrev S_ : Shape := ⟨0, ![]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S512x1024, .f32⟩
  | .hbm, ⟨2, _⟩ => ⟨S512x1024, .f32⟩
  | .hbm, ⟨3, _⟩ => ⟨S1x1024x1024, .f32⟩
  | .hbm, ⟨4, _⟩ => ⟨S1x1024x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S512x1024, .f32⟩
  | .hbm, ⟨9, _⟩ => ⟨S_, .i32⟩
  | .hbm, ⟨10, _⟩ => ⟨S_, .i1⟩
  | .hbm, ⟨11, _⟩ => ⟨S512x1024, .f32⟩
  | .hbm, ⟨12, _⟩ => ⟨S1024x1024, .f32⟩
  | .hbm, ⟨13, _⟩ => ⟨S1x1024x1024, .f32⟩
  | .hbm, ⟨14, _⟩ => ⟨S_, .f32⟩
  | .hbm, ⟨15, _⟩ => ⟨S1x1024x1024, .f32⟩
  | .hbm, ⟨16, _⟩ => ⟨S1x1024x1024, .f32⟩
  | .hbm, ⟨17, _⟩ => ⟨S_, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S_, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S_, .f32⟩
  | .hbm, ⟨30, _⟩ => ⟨S1x1024x1024, .f32⟩
  | .hbm, ⟨31, _⟩ => ⟨S1x1024x1024, .f32⟩
  | .hbm, ⟨32, _⟩ => ⟨S_, .f32⟩
  | .hbm, ⟨33, _⟩ => ⟨S1x1024x1024, .f32⟩
  | .hbm, ⟨34, _⟩ => ⟨S1x1024x1024, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | .hbm, ⟨39, _⟩ => ⟨S1x1024x1024, .f32⟩
  | .hbm, ⟨40, _⟩ => ⟨S_, .f32⟩
  | .hbm, ⟨41, _⟩ => ⟨S1x1024x1024, .f32⟩
  | .hbm, ⟨42, _⟩ => ⟨S1x1024x1024, .f32⟩
  | .hbm, ⟨43, _⟩ => ⟨S1x1024x1024, .f32⟩
  | .hbm, ⟨44, _⟩ => ⟨S_, .f32⟩
  | .hbm, ⟨45, _⟩ => ⟨S1x1024x1024, .f32⟩
  | .hbm, ⟨46, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel23.lean ====
abbrev S8x1024 : Shape := ⟨2, ![8, 1024]⟩
abbrev S1024x1536 : Shape := ⟨2, ![1024, 1536]⟩
abbrev S1x1536 : Shape := ⟨2, ![1, 1536]⟩
abbrev S8x1536 : Shape := ⟨2, ![8, 1536]⟩
abbrev S1024x512 : Shape := ⟨2, ![1024, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1536, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S8x1024 : Shape := ⟨2, ![8, 1024]⟩
abbrev S1024x1536 : Shape := ⟨2, ![1024, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.DAct.lean ====
/-
  The gradient through the squared positive part.  One grid point multiplies a block of the incoming gradient with the
  transposed weight and scales every entry with twice the root of the saved square; the root of the square of the
  positive part is the positive part, and where that is zero the gradient of the plain text is zero as well.
-/
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DAct

open Cert.Kernel2Ideal Cert.Kernel2Ideal.Gen

section
variable {F : FTy → Type} [FloatOps F] (m : (ℓ : Loc nD τ sig) → Buf (Elt F) ℓ)

/-- The saved activation as the call finds it: the square of the positive part. -/
theorem act_eq (c : Dev nD) : (V m c main_v3 : Vec F S4096x4096 .bf16) =
    truncf .bf16 (mulf (maximumf (m ((c : Thread nD τ).loc main_arg0)) (broadcastInDim S4096x4096 ![] bcast_S_S4096x4096 (constant S_ .f32 0x00000000#32)))
      (maximumf (m ((c : Thread nD τ).loc main_arg0)) (broadcastInDim S4096x4096 ![] bcast_S_S4096x4096 (constant S_ .f32 0x00000000#32)))) bitsLt_bf16_f32 := by
  unfold V
  after_results

end

variable (m : (ℓ : Loc nD τ sig) → Buf (Elt Ideal) ℓ)

/-- The root of the square of a nonnegative number is the number. -/
theorem sqrt_sq (x : EReal) (h : 0 ≤ x) : Ideal.sqrt (x * x) = x := by
  induction x using EReal.rec with
  | bot => exact absurd h (by simp)
  | top => simp
  | coe r =>
    have hr : 0 ≤ r := by exact_mod_cast h
    rw [← EReal.coe_mul, Ideal.sqrt_coe, if_neg (not_lt.mpr (mul_nonneg hr hr)), Real.sqrt_mul_self hr]

/-- The number two, as the program writes it. -/
abbrev two : EReal := Ideal.ofBits .f32 0x40000000#32

/-- Scaling with twice the root of the saved square is scaling with twice the positive part where the input is positive,
    and gives zero elsewhere. -/
theorem scale_eq (g x : EReal) : g * (two * Ideal.sqrt (max x 0 * max x 0)) = if 0 < x then g * (two * max x 0) else 0 := by
  rw [sqrt_sq _ (le_max_right _ _)]
  split_ifs with h
  · rfl
  · rw [max_eq_right (not_lt.mp h), mul_zero, mul_zero]

/-- The blocks of a grid point: a band of the gradient's rows, a band of the weight's rows, and the square where they meet
    of the activation and of the result. -/
theorem index (t : Fin cfg0.N) : win0_0.index t = ![t.val / 4, 0] ∧ win0_1.index t = ![t.val % 4, 0]
    ∧ win0_2.index t = ![t.val / 4, t.val % 4] ∧ win0_3.index t = ![t.val / 4, t.val % 4] := by
  revert t; decide +kernel

/-- The array the kernel leaves is the array the reference leaves. -/
theorem value_eq (c : Dev nD) : (dats m 0 c).arrAt 3 cfg0.N
    = Cert.Reference2Ideal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  have hN : t.val < 16 := t.isLt
  obtain ⟨r, j, rfl⟩ : ∃ (r j : Fin 1024), y = ix2 r j := ⟨y 0, y 1, eq_ix2 y⟩
  have place : ((cfg0.win 3).blk t).view.emb (ix2 r j)
      = ix2 (⟨t.val / 4 * 1024 + r.val, by omega⟩ : Fin 4096) (⟨t.val % 4 * 1024 + j.val, by omega⟩ : Fin 4096) := by
    blk_ext [index t]
  refine Eq.trans ?_ (congrArg _ place).symm
  open Cert.Reference2Ideal.Read in
  pointwise [k0_pay1, val_main_v14, val_main_v13, val_main_v12, val_main_v11, val_main_v10, val_main_v9, val_main_v8, val_main_v7, val_main_v6, val_main_v5, val_main_v4, val_main_v3, val_main_v2, val_main_v1, val_main_v0, val_main_call0_v0, val_main_call0_cst, val_main_cst, val_main_cst_0, val_main_cst_1, val_main_cst_2]
  refine Eq.trans ?_ (scale_eq _ _)
  refine congrArg₂ (· * ·) (Fin.sum_fin_congr fun k => congrArg₂ (· * ·) ?_ ?_) (congrArg (fun v => two * Ideal.sqrt v) ?_)
  · blk_ext [iblk, index t, V_main_arg2]
  · blk_ext [iblk, index t, V_main_arg1]
  · blk_simp [iblk]
    rw [act_eq, show (win0_2.blk t).view.emb (ix2 r j)
      = ix2 (⟨t.val / 4 * 1024 + r.val, by omega⟩ : Fin 4096) (⟨t.val % 4 * 1024 + j.val, by omega⟩ : Fin 4096) from by blk_ext [index t]]
    pointwise []

/-- From any memory, kernel and reference end with the same array. -/
theorem algebraic : Cert.algebraic_Kernel2Ideal_Reference2Ideal := by
  pair_intro
  · run_from Value.run_blocks m g
  · run_from Cert.Reference2Ideal.Value.run m' g'
    rw [value_eq]
    exact (Cert.Reference2Ideal.Read.val_main_v14_eq (F := Ideal) _ _ _).symm

end Cert.DAct

end
-- ==== Proof.DwFfOut.lean ====
/-
  The weight gradient of the feed-forward block's second product.  One grid point computes one block of 1024 rows of
  actᵀ · dff from a whole contraction; the blocks tile the result, so the array holds the product, which is what the
  gradient of the plainly written product holds after its reshape.
-/
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DwFfOut

open Cert.Kernel3Ideal Cert.Kernel3Ideal.Gen

section
variable {F : FTy → Type} [FloatOps F] (m : (ℓ : Loc nD τ sig) → Buf (Elt F) ℓ)

/-- The first operand as the call finds it: the transposed square of the positive part. -/
theorem left_eq (c : Dev nD) : (V m c main_v4 : Vec F S4096x4096 .bf16) = transpose S4096x4096 [1, 0]
    (truncf .bf16 (mulf (maximumf (m ((c : Thread nD τ).loc main_arg0)) (broadcastInDim S4096x4096 ![] bcast_S_S4096x4096 (constant S_ .f32 0x00000000#32)))
      (maximumf (m ((c : Thread nD τ).loc main_arg0)) (broadcastInDim S4096x4096 ![] bcast_S_S4096x4096 (constant S_ .f32 0x00000000#32)))) bitsLt_bf16_f32)
    transposes_S4096x4096_S4096x4096_1_0 := by
  unfold V
  after_results

end

variable (m : (ℓ : Loc nD τ sig) → Buf (Elt Ideal) ℓ)

/-- The blocks of a grid point: a band of the first operand's rows, the whole second operand, a slab of the result. -/
theorem index (t : Fin cfg0.N) : win0_0.index t = ![t.val, 0] ∧ win0_1.index t = ![0, 0] ∧ win0_2.index t = ![t.val, 0, 0] := by
  revert t; decide +kernel

/-- The array the kernel leaves is the array the reference leaves: slab `t` holds the rows `1024 t …` of the product. -/
theorem value_eq (c : Dev nD) : (dats m 0 c).arrAt 2 cfg0.N
    = Cert.Reference3Ideal.Read.val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  have hN : t.val < 4 := t.isLt
  obtain ⟨a, r, j, rfl⟩ : ∃ (a : Fin 1) (r j : Fin 1024), y = ix3 a r j := ⟨y 0, y 1, y 2, eq_ix3 y⟩
  have place : ((cfg0.win 2).blk t).view.emb (ix3 a r j) = ix3 (⟨t.val, hN⟩ : Fin 4) r j := by
    blk_ext [index t]
  refine Eq.trans ?_ (congrArg _ place).symm
  open Cert.Reference3Ideal.Read in
  pointwise [k0_pay1, val_main_v8, val_main_v7, val_main_v6, val_main_v5, val_main_v4, val_main_v2, val_main_v1, val_main_call0_v0, val_main_call0_cst]
  refine Fin.sum_fin_congr fun k => (congrArg₂ (· * ·) ?_ ?_).trans (mul_comm (G := EReal) _ _)
  · blk_simp [iblk]
    rw [left_eq, show (win0_0.blk t).view.emb (ix2 r k) = ix2 (⟨t.val * 1024 + r.val, by omega⟩ : Fin 4096) k from by blk_ext [index t]]
    pointwise []
  · blk_ext [iblk, index t, V_main_arg1]

/-- From any memory, kernel and reference end with the same array. -/
theorem algebraic : Cert.algebraic_Kernel3Ideal_Reference3Ideal := by
  pair_intro
  · run_from Value.run_blocks m g
  · run_from Cert.Reference3Ideal.Value.run m' g'
    rw [value_eq]
    exact (Cert.Reference3Ideal.Read.val_main_v8_eq (F := Ideal) _ _).symm

end Cert.DwFfOut

end
-- ==== Proof.DwFfIn.lean ====
/-
  The weight gradient of the feed-forward block's first product.  One grid point computes one block of 1024 columns of
  h2ᵀ · du from a whole contraction; block `t` is slab `t` of the result, and the plainly written gradient, split into
  four slabs of columns, holds the same sums.
-/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DwFfIn

open Cert.Kernel4Ideal Cert.Kernel4Ideal.Gen

section
variable {F : FTy → Type} [FloatOps F] (m : (ℓ : Loc nD τ sig) → Buf (Elt F) ℓ)

/-- The first operand as the call finds it: the transposed second-branch input. -/
theorem left_eq (c : Dev nD) : (V m c main_v0 : Vec F S1024x4096 .bf16) = transpose S1024x4096 [1, 0]
    (m ((c : Thread nD τ).loc main_arg0) : Vec F S4096x1024 .bf16) transposes_S4096x1024_S1024x4096_1_0 := by
  unfold V
  after_results

end

variable (m : (ℓ : Loc nD τ sig) → Buf (Elt Ideal) ℓ)

/-- The blocks of a grid point: the whole first operand, a band of the second one's columns, a slab of the result. -/
theorem index (t : Fin cfg0.N) : win0_0.index t = ![0, 0] ∧ win0_1.index t = ![0, t.val] ∧ win0_2.index t = ![t.val, 0, 0] := by
  revert t; decide +kernel

/-- The array the kernel leaves is the array the reference leaves: slab `t` holds the columns `1024 t …` of the product. -/
theorem value_eq (c : Dev nD) : (dats m 0 c).arrAt 2 cfg0.N
    = Cert.Reference4Ideal.Read.val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  have hN : t.val < 4 := t.isLt
  obtain ⟨a, r, j, rfl⟩ : ∃ (a : Fin 1) (r j : Fin 1024), y = ix3 a r j := ⟨y 0, y 1, y 2, eq_ix3 y⟩
  have place : ((cfg0.win 2).blk t).view.emb (ix3 a r j) = ix3 (⟨t.val, hN⟩ : Fin 4) r j := by
    blk_ext [index t]
  refine Eq.trans ?_ (congrArg _ place).symm
  open Cert.Reference4Ideal.Read in
  pointwise [k0_pay1, val_main_v8, val_main_v7, val_main_v6, val_main_v5, val_main_v4, val_main_v3, val_main_v2, val_main_v1, val_main_v0, val_main_cst]
  refine Fin.sum_fin_congr fun k => (congrArg₂ (· * ·) ?_ ?_).trans (mul_comm (G := EReal) _ _)
  · blk_simp [iblk]
    rw [left_eq, show (win0_0.blk t).view.emb (ix2 r k) = ix2 r k from by blk_ext [index t]]
    pointwise []
  · blk_ext [iblk, index t, V_main_arg1]

/-- From any memory, kernel and reference end with the same array. -/
theorem algebraic : Cert.algebraic_Kernel4Ideal_Reference4Ideal := by
  pair_intro
  · run_from Value.run_blocks m g
  · run_from Cert.Reference4Ideal.Value.run m' g'
    rw [value_eq]
    exact (Cert.Reference4Ideal.Read.val_main_v8_eq (F := Ideal) _ _).symm

end Cert.DwFfIn

end
-- ==== Proof.LayerGrad.lean ====
/-
  The gradient of a layer normalisation along one row, in the two forms that occur: the kernel's, with the normalised row
  and two row means, and the one that differentiates mean and variance step by step.  On finite rows they agree.
-/
module

public import Idealize.ShloMosaic.Lib.Pointwise

@[expose] public section

noncomputable section

open Idealize.ShloMosaic

namespace Cert.LayerGrad

/-- An extended real that is a real number. -/
def Finite (x : EReal) : Prop := ∃ r : ℝ, x = (r : EReal)

theorem Finite.add {x y : EReal} : Finite x → Finite y → Finite (x + y)
  | ⟨a, ha⟩, ⟨b, hb⟩ => ⟨a + b, by rw [ha, hb, EReal.coe_add]⟩
theorem Finite.mul {x y : EReal} : Finite x → Finite y → Finite (x * y)
  | ⟨a, ha⟩, ⟨b, hb⟩ => ⟨a * b, by rw [ha, hb, EReal.coe_mul]⟩
theorem Finite.one : Finite 1 := ⟨1, rfl⟩

/-- The sum of real numbers, taken among the extended reals. -/
theorem coe_sum {ι : Type} (s : Finset ι) (f : ι → ℝ) : ∑ k ∈ s, (f k : EReal) = ((∑ k ∈ s, f k : ℝ) : EReal) := by
  classical
  induction s using Finset.induction_on with
  | empty => rfl
  | insert a s h ih => rw [Finset.sum_insert h, Finset.sum_insert h, ih, EReal.coe_add]

theorem Finite.sum {ι : Type} [Fintype ι] {f : ι → EReal} (h : ∀ k, Finite (f k)) : Finite (∑ k, f k) := by
  choose g hg using h
  exact ⟨∑ k, g k, by rw [← coe_sum]; exact Finset.sum_congr rfl fun k _ => hg k⟩

/-- An extended real below the top in absolute value is a real number. -/
theorem finite_of_abs_lt {x : EReal} (h : max x (-x) < ⊤) : Finite x := by
  induction x with
  | bot => exact absurd h (by simp)
  | top => exact absurd h (by simp)
  | coe r => exact ⟨r, rfl⟩

theorem ofBits_top : Ideal.ofBits .f32 0x7F800000#32 = ⊤ := by
  simp [Ideal.ofBits, Ideal.ieee]

/-- An array whose entries all compare below the top in absolute value has finite entries. -/
theorem finite_of_below {S : Shape} {x : FVec Ideal S .f32} {b : (⟨0, ![]⟩ : Shape).BroadcastsInDim S (![] : Fin 0 → Fin S.rank)}
    (h : cmpf .olt (Host.absf x) (broadcastInDim S ![] b (constant ⟨0, ![]⟩ .f32 0x7F800000#32 : FVec Ideal ⟨0, ![]⟩ .f32)) = fun _ => 1#1)
    (i : S.Idx) : Finite (x i) := by
  have e : Ideal.cmp .olt (max (x i) (-(x i))) (Ideal.ofBits .f32 0x7F800000#32) = 1#1 := congrFun h i
  rw [ofBits_top] at e
  refine finite_of_abs_lt ?_
  by_contra hn
  simp [Ideal.cmp, hn] at e

theorem ofBits_width : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_eps : Ideal.ofBits .f32 0x3727C5AC#32 = ((2748779 / 274877906944 : ℝ) : EReal) := by
  simp [Ideal.ofBits, Ideal.ieee, -EReal.coe_mul]; norm_num
theorem ofBits_alpha : Finite (Ideal.ofBits .f32 0x3F9837F0#32) :=
  ⟨623487 / 524288, by simp [Ideal.ofBits, Ideal.ieee, -EReal.coe_mul]; norm_num⟩

/-- The mean of a row. -/
def mean (f : Fin 1024 → EReal) : EReal := Ideal.div (∑ k, f k) (Ideal.ofBits .f32 0x44800000#32)
/-- The mean square of a row about its mean, and a small constant. -/
def spread (f : Fin 1024 → EReal) : EReal :=
  Ideal.div (∑ k, (f k - mean f) * (f k - mean f)) (Ideal.ofBits .f32 0x44800000#32) + Ideal.ofBits .f32 0x3727C5AC#32
/-- One over the root of the spread. -/
def scale (f : Fin 1024 → EReal) : EReal := Ideal.rsqrt (spread f)
/-- One entry of the normalised row. -/
def normed (f : Fin 1024 → EReal) (l : Fin 1024) : EReal := (f l - mean f) * scale f

/-- The gradient with respect to the row, from the gradient `q` with respect to the normalised row. -/
def grad (f q : Fin 1024 → EReal) (l : Fin 1024) : EReal :=
  scale f * ((q l - mean q) - normed f l * mean (fun k => q k * normed f k))

/-- The gradient through the spread: the part that the scale gives each entry. -/
def viaScale (f q : Fin 1024 → EReal) (l : Fin 1024) : EReal :=
  Ideal.div ((∑ k, (f k - mean f) * q k) * (Ideal.ofBits .f32 0xBF000000#32 * Ideal.div (scale f) (spread f)))
    (Ideal.ofBits .f32 0x44800000#32) * (Ideal.ofBits .f32 0x40000000#32 * (f l - mean f))
/-- The gradient through the mean: the same for every entry. -/
def viaMean (f q : Fin 1024 → EReal) : EReal :=
  Ideal.div ((∑ k, -(q k * scale f)) + ∑ k, -viaScale f q k) (Ideal.ofBits .f32 0x44800000#32)
/-- The gradient with respect to the row, as the sum of the three ways in which an entry matters. -/
def gradSteps (f q : Fin 1024 → EReal) (l : Fin 1024) : EReal := (q l * scale f + viaScale f q l) + viaMean f q

theorem mean_coe (F : Fin 1024 → ℝ) : mean (fun k => (F k : EReal)) = (((∑ k, F k) / 1024 : ℝ) : EReal) := by
  unfold mean
  rw [ofBits_width, Ideal.div_coe (by norm_num), coe_sum, ← EReal.coe_mul, mul_one_div]

/-- The spread of a row of real numbers. -/
def spreadR (F : Fin 1024 → ℝ) : ℝ := (∑ k, (F k - (∑ j, F j) / 1024) * (F k - (∑ j, F j) / 1024)) / 1024 + 2748779 / 274877906944

theorem spreadR_pos (F : Fin 1024 → ℝ) : 0 < spreadR F :=
  add_pos_of_nonneg_of_pos (div_nonneg (Finset.sum_nonneg fun k _ => mul_self_nonneg _) (by norm_num)) (by norm_num)

theorem spread_coe (F : Fin 1024 → ℝ) : spread (fun k => (F k : EReal)) = (spreadR F : EReal) := by
  unfold spread spreadR
  rw [mean_coe, ofBits_width, ofBits_eps, Ideal.div_coe (by norm_num)]
  simp only [← EReal.coe_sub, ← EReal.coe_mul, coe_sum, ← EReal.coe_add, mul_one_div]

theorem scale_coe (F : Fin 1024 → ℝ) : scale (fun k => (F k : EReal)) = (((Real.sqrt (spreadR F))⁻¹ : ℝ) : EReal) := by
  unfold scale
  rw [spread_coe, Ideal.rsqrt_coe, if_neg (not_lt.mpr (spreadR_pos F).le), if_neg (spreadR_pos F).ne']

/-- The entries of a row about its mean add up to nothing. -/
theorem sum_about (F : Fin 1024 → ℝ) : ∑ k, (F k - (∑ j, F j) / 1024) = 0 := by
  rw [Finset.sum_sub_distrib, Finset.sum_const, Finset.card_univ, Fintype.card_fin, nsmul_eq_mul]
  push_cast
  ring

/-- On finite rows the two forms of the gradient agree. -/
theorem gradSteps_eq {f q : Fin 1024 → EReal} (hf : ∀ k, Finite (f k)) (hq : ∀ k, Finite (q k)) (l : Fin 1024) :
    gradSteps f q l = grad f q l := by
  choose F hF using hf
  choose Q hQ using hq
  obtain rfl : f = fun k => (F k : EReal) := funext hF
  obtain rfl : q = fun k => (Q k : EReal) := funext hQ
  have hs := spreadR_pos F
  have hr : (Real.sqrt (spreadR F))⁻¹ * (Real.sqrt (spreadR F))⁻¹ * spreadR F = 1 := by
    rw [← mul_inv, Real.mul_self_sqrt hs.le, inv_mul_cancel₀ hs.ne']
  have h0 := sum_about F
  unfold gradSteps grad viaMean viaScale normed
  rw [mean_coe Q]
  simp only [mean_coe F, spread_coe, scale_coe, ofBits_width, ofBits_two, ofBits_neg_half,
    Ideal.div_coe (show (1024 : ℝ) ≠ 0 by norm_num), Ideal.div_coe hs.ne', ← EReal.coe_sub, ← EReal.coe_mul, ← EReal.coe_neg,
    coe_sum, ← EReal.coe_add, mean_coe]
  congr 1
  generalize (Real.sqrt (spreadR F))⁻¹ = r at hr
  generalize spreadR F = s at hr hs
  generalize (∑ j, F j) / 1024 = μ at h0
  have e1 : r * (1 / s) = r * r * r := by
    field_simp
    linear_combination (-r) * hr
  have e2 : ∑ k, Q k * ((F k - μ) * r) = (∑ k, (F k - μ) * Q k) * r := by
    rw [Finset.sum_mul]
    exact Finset.sum_congr rfl fun k _ => by ring
  have e3 : ∑ k, -(Q k * r) = -((∑ k, Q k) * r) := by
    rw [Finset.sum_neg_distrib, Finset.sum_mul]
  have e4 : ∀ a : ℝ, ∑ k, -(a * (2 * (F k - μ))) = 0 := fun a => by
    rw [Finset.sum_neg_distrib, ← Finset.mul_sum, ← Finset.mul_sum, h0]
    ring
  rw [e2, e3, e4, e1]
  ring

end Cert.LayerGrad

end
-- ==== Proof.GridSum.lean ====
/-
  A block that stays in place while the grid runs, and to which every point adds its part, ends as the sum of the parts;
  and a sum over 4096 rows taken 512 rows at a time is the sum over the rows.
-/
module

public import Idealize.ShloMosaic.Lib.Pointwise

@[expose] public section

noncomputable section

namespace Cert.GridSum

/-- What begins as the first part and gains one part a step is the sum of the parts so far. -/
theorem steps_sum {N : ℕ} (e part : (n : ℕ) → n < N → EReal) (h0 : ∀ h, e 0 h = part 0 h)
    (hs : ∀ n h, e (n + 1) h = e n (Nat.lt_of_succ_lt h) + part (n + 1) h) :
    ∀ n (h : n < N), e n h = ∑ s : Fin (n + 1), part s.val (by omega)
  | 0, h => by rw [h0, Fin.sum_univ_one]; rfl
  | n + 1, h => by rw [hs, steps_sum e part h0 hs n, Fin.sum_univ_castSucc (n := n + 1)]; rfl

/-- Row `r` of the `s`-th block of 512 rows. -/
def row (s : Fin 8) (r : Fin 512) : Fin 4096 := ⟨s.val * 512 + r.val, by omega⟩

/-- Eight sums over 512 rows each are the sum over all the rows. -/
theorem sum_rows (f : Fin 4096 → EReal) : ∑ s : Fin 8, ∑ r : Fin 512, f (row s r) = ∑ R, f R := by
  rw [← Finset.sum_product' Finset.univ Finset.univ fun s r => f (row s r), Finset.univ_product_univ]
  refine Fintype.sum_equiv (finProdFinEquiv (m := 8) (n := 512)) _ _ fun x => congrArg f (Fin.ext ?_)
  show x.1.val * 512 + x.2.val = x.2.val + 512 * x.1.val
  omega

/-- What a point of the grid starts, and each later point adds to, ends as the sum over all the rows. -/
theorem gathered (o : (n : ℕ) → n < 8 → EReal) (part : Fin 4096 → EReal) (h0 : ∀ t : Fin 8, t.val % 8 = 0 → o t.val t.isLt = ∑ r, part (row t r))
    (hs : ∀ t : Fin 8, ¬t.val % 8 = 0 →
      o t.val t.isLt = o (t.val - 1) (Nat.lt_of_le_of_lt (Nat.sub_le _ _) t.isLt) + ∑ r, part (row t r)) (t : Fin 8) (h : t.val % 8 = 7) :
    o t.val t.isLt = ∑ R, part R := by
  obtain ⟨n, hn⟩ := t
  obtain rfl : n = 7 := by
    have h' : n % 8 = 7 := h
    omega
  refine (steps_sum o (fun n h => ∑ r, part (row ⟨n, h⟩ r)) (fun h => h0 ⟨0, h⟩ rfl) (fun n h => hs ⟨n + 1, h⟩ ?_) 7 hn).trans (sum_rows part)
  show ¬(n + 1) % 8 = 0
  omega

end Cert.GridSum

end
-- ==== Proof.DH2.lean ====
/-
  The gradient through the feed-forward input product, the second modulation and the first layer normalisation.  One grid
  point takes 512 rows: their product with the whole weight, the gradient of the normalised row, its pull-back through the
  normalisation, and that times the gate.  Five row vectors gather column sums over the grid.
-/
module

public import proofs.«01_k».proof.Defs
public import proofs.«01_k».proof.Proof.LayerGrad
public import proofs.«01_k».proof.Proof.GridSum
public import proofs.«01_k».proof.Proof.Gen.Kernel5Ideal.Value
public import proofs.«01_k».proof.Proof.Gen.Reference5Ideal.Read
public import Idealize.ShloMosaic.Lib.Pointwise

@[expose] public section

noncomputable section

open Idealize.ShloMosaic Idealize.ShloMosaic.TcCoe Idealize.SL.Sem
open Idealize.ShloMosaic.Pipeline (Dat)

namespace Cert.DH2

open Cert.Kernel5Ideal Cert.Kernel5Ideal.Gen Cert.LayerGrad Cert.GridSum

theorem zero2 : (![0, 0] : Fin 2 → Nat) = fun _ => 0 := funext fun a => by fin_cases a <;> rfl

/-! ## One row -/

/-- The gradient with respect to the normalised row with gain and offset: the residual's share and the modulated product. -/
def dx (p d sc : Fin 1024 → EReal) (l : Fin 1024) : EReal := Ideal.ofBits .f32 0x3F9837F0#32 * d l + p l * (1 + sc l)
/-- The gradient with respect to the normalised row. -/
def dn (p d sc lg : Fin 1024 → EReal) (l : Fin 1024) : EReal := dx p d sc l * lg l
/-- The gradient with respect to the residual row `f`. -/
def dr (f p d sc lg : Fin 1024 → EReal) (l : Fin 1024) : EReal := grad f (dn p d sc lg) l
/-- The gradient with respect to the gated branch. -/
def dy (f p d sc g lg : Fin 1024 → EReal) (l : Fin 1024) : EReal := (1 + g l) * dr f p d sc lg l

/-- A row's part of the gradient of the modulation scale. -/
def partScale (f p lg lb : Fin 1024 → EReal) (l : Fin 1024) : EReal := p l * (normed f l * lg l + lb l)
/-- A row's part of the gradient of the normalisation gain. -/
def partGain (f p d sc : Fin 1024 → EReal) (l : Fin 1024) : EReal := dx p d sc l * normed f l
/-- A row's part of the gradient of the gate. -/
def partGate (f p d y sc lg : Fin 1024 → EReal) (l : Fin 1024) : EReal := dr f p d sc lg l * y l

/-! ## One grid point -/

/-- A row of a block. -/
def brow (x : Vec Ideal S512x1024 .f32) (r : Fin 512) (l : Fin 1024) : EReal := x (ix2 r l)
/-- A row vector. -/
def vec (x : Vec Ideal S1x1024 .f32) (l : Fin 1024) : EReal := x (ix2 0 l)
/-- A row of a block's product. -/
def bprod (x0 : Vec Ideal S512x4096 .bf16) (x1 : Vec Ideal S1024x4096 .bf16) (r : Fin 512) (l : Fin 1024) : EReal :=
  ∑ k : Fin 4096, x0 (ix2 r k) * x1 (ix2 l k)

section pay
variable (x0 : Vec Ideal S512x4096 .bf16) (x1 : Vec Ideal S1024x4096 .bf16) (x2 x3 x4 : Vec Ideal S512x1024 .f32)
  (x5 x6 x7 x8 xo : Vec Ideal S1x1024 .f32) (r : Fin 512) (l : Fin 1024)

theorem pay_prod : k0_pay11 x0 x1 (ix2 r l) = bprod x0 x1 r l := by
  unfold bprod
  pointwise [k0_pay11]

theorem pay_scale (z : Fin 1) : k0_pay13 x2 (ix2 r z) = scale (brow x2 r) := by
  unfold scale spread mean brow
  pointwise [k0_pay13, k0_pay12]

theorem pay_normed : k0_pay14 x2 (ix2 r l) = normed (brow x2 r) l := by
  unfold normed scale spread mean brow
  pointwise [k0_pay14, k0_pay13, k0_pay12]

theorem pay_dx : k0_pay17 (k0_pay11 x0 x1) x3 x5 k0_pay16 (ix2 r l) = dx (bprod x0 x1 r) (brow x3 r) (vec x5) l := by
  unfold dx bprod brow vec
  pointwise [k0_pay17, k0_pay11, k0_pay16]

/-- The gradient with respect to the residual: the block's entry. -/
theorem pay_dr : k0_pay18 (k0_pay11 x0 x1) x3 x5 x7 (k0_pay13 x2) (k0_pay14 x2) k0_pay16 (ix2 r l)
    = dr (brow x2 r) (bprod x0 x1 r) (brow x3 r) (vec x5) (vec x7) l := by
  have e0 := fun l => pay_dx x0 x1 x3 x5 r l
  have e1 := pay_scale x2 r
  have e2 := fun l => pay_normed x2 r l
  unfold dr dn grad
  rw [← e1 0]
  simp only [← e0, ← e2]
  generalize k0_pay14 x2 = n
  generalize k0_pay13 x2 = s
  unfold k0_pay18 mean vec
  generalize k0_pay17 (k0_pay11 x0 x1) x3 x5 k0_pay16 = d
  pointwise []

/-- The gradient with respect to the gated branch: the block's entry. -/
theorem pay_dy : k0_pay24 (k0_pay11 x0 x1) x3 x5 x6 x7 (k0_pay13 x2) (k0_pay14 x2) k0_pay16 (ix2 r l)
    = dy (brow x2 r) (bprod x0 x1 r) (brow x3 r) (vec x5) (vec x6) (vec x7) l := by
  have e := pay_dr x0 x1 x2 x3 x5 x7 r l
  unfold dy
  rw [← e]
  unfold k0_pay24 vec
  generalize k0_pay18 (k0_pay11 x0 x1) x3 x5 x7 (k0_pay13 x2) (k0_pay14 x2) k0_pay16 = d
  pointwise []

/-- What a point adds to the gradient of the modulation scale. -/
theorem pay_sum_scale : k0_pay6 (k0_pay19 (k0_pay11 x0 x1) (k0_pay15 x2 x7 x8)) xo (ix2 0 l)
    = xo (ix2 0 l) + ∑ r, partScale (brow x2 r) (bprod x0 x1 r) (vec x7) (vec x8) l := by
  have e0 := fun r => pay_prod x0 x1 r l
  have e2 := fun r => pay_normed x2 r l
  unfold partScale
  simp only [← e0, ← e2]
  unfold k0_pay15 vec
  generalize k0_pay14 x2 = n
  generalize k0_pay11 x0 x1 = p
  pointwise [k0_pay6, k0_pay19]

/-- What a point adds to the gradient of the modulation shift. -/
theorem pay_sum_shift : k0_pay7 (k0_pay20 (k0_pay11 x0 x1)) xo (ix2 0 l) = xo (ix2 0 l) + ∑ r, bprod x0 x1 r l := by
  have e0 := fun r => pay_prod x0 x1 r l
  simp only [← e0]
  generalize k0_pay11 x0 x1 = p
  pointwise [k0_pay7, k0_pay20]

/-- What a point adds to the gradient of the normalisation gain. -/
theorem pay_sum_gain : k0_pay8 (k0_pay21 (k0_pay11 x0 x1) x3 x5 (k0_pay14 x2) k0_pay16) xo (ix2 0 l)
    = xo (ix2 0 l) + ∑ r, partGain (brow x2 r) (bprod x0 x1 r) (brow x3 r) (vec x5) l := by
  have e0 := fun r => pay_dx x0 x1 x3 x5 r l
  have e2 := fun r => pay_normed x2 r l
  unfold partGain
  simp only [← e0, ← e2]
  unfold k0_pay21
  generalize k0_pay14 x2 = n
  generalize k0_pay17 (k0_pay11 x0 x1) x3 x5 k0_pay16 = d
  pointwise [k0_pay8]

/-- What a point adds to the gradient of the normalisation offset. -/
theorem pay_sum_offset : k0_pay9 (k0_pay22 (k0_pay11 x0 x1) x3 x5 k0_pay16) xo (ix2 0 l)
    = xo (ix2 0 l) + ∑ r, dx (bprod x0 x1 r) (brow x3 r) (vec x5) l := by
  have e0 := fun r => pay_dx x0 x1 x3 x5 r l
  simp only [← e0]
  unfold k0_pay22
  generalize k0_pay17 (k0_pay11 x0 x1) x3 x5 k0_pay16 = d
  pointwise [k0_pay9]

/-- What a point adds to the gradient of the gate. -/
theorem pay_sum_gate : k0_pay10 (k0_pay23 (k0_pay11 x0 x1) x3 x4 x5 x7 (k0_pay13 x2) (k0_pay14 x2) k0_pay16) xo (ix2 0 l)
    = xo (ix2 0 l) + ∑ r, partGate (brow x2 r) (bprod x0 x1 r) (brow x3 r) (brow x4 r) (vec x5) (vec x7) l := by
  have e := fun r => pay_dr x0 x1 x2 x3 x5 x7 r l
  unfold partGate
  simp only [← e]
  unfold k0_pay23 brow
  generalize k0_pay18 (k0_pay11 x0 x1) x3 x5 x7 (k0_pay13 x2) (k0_pay14 x2) k0_pay16 = d
  pointwise [k0_pay10]

/-- The five running sums start from nothing. -/
theorem pay_zero (z : Fin 1) : (k0_pay1 : FVec Ideal S1x1024 .f32) (ix2 z l) = 0 ∧ (k0_pay2 : FVec Ideal S1x1024 .f32) (ix2 z l) = 0
    ∧ (k0_pay3 : FVec Ideal S1x1024 .f32) (ix2 z l) = 0 ∧ (k0_pay4 : FVec Ideal S1x1024 .f32) (ix2 z l) = 0
    ∧ (k0_pay5 : FVec Ideal S1x1024 .f32) (ix2 z l) = 0 := by
  refine ⟨?_, ?_, ?_, ?_, ?_⟩
  · pointwise [k0_pay1]
  · pointwise [k0_pay2]
  · pointwise [k0_pay3]
  · pointwise [k0_pay4]
  · pointwise [k0_pay5]

end pay

section out
variable {F : FTy → Type} [FloatOps F]
variable (c : Dev nD) (i : grid0.Coords) (a3 : Memref sig .tc .vmem S512x4096 .bf16) (h3 : a3.IsWhole)
  (a4 : Memref sig .tc .vmem S1024x4096 .bf16) (h4 : a4.IsWhole) (a5 : Memref sig .tc .vmem S512x1024 .f32) (h5 : a5.IsWhole)
  (a6 : Memref sig .tc .vmem S512x1024 .f32) (h6 : a6.IsWhole) (a7 : Memref sig .tc .vmem S512x1024 .f32) (h7 : a7.IsWhole)
  (a8 : Memref sig .tc .vmem S1x1024 .f32) (h8 : a8.IsWhole) (a9 : Memref sig .tc .vmem S1x1024 .f32) (h9 : a9.IsWhole)
  (a10 : Memref sig .tc .vmem S1x1024 .f32) (h10 : a10.IsWhole) (a11 : Memref sig .tc .vmem S1x1024 .f32) (h11 : a11.IsWhole)
  (a12 : Memref sig .tc .vmem S512x1024 .f32) (h12 : a12.IsWhole) (a13 : Memref sig .tc .vmem S512x1024 .bf16) (h13 : a13.IsWhole)
  (a14 : Memref sig .tc .vmem S1x1024 .f32) (h14 : a14.IsWhole) (a15 : Memref sig .tc .vmem S1x1024 .f32) (h15 : a15.IsWhole)
  (a16 : Memref sig .tc .vmem S1x1024 .f32) (h16 : a16.IsWhole) (a17 : Memref sig .tc .vmem S1x1024 .f32) (h17 : a17.IsWhole)
  (a18 : Memref sig .tc .vmem S1x1024 .f32) (h18 : a18.IsWhole) (a19 : Memref sig .tc .vmem S8x128 .f32) (h19 : a19.IsWhole)
  (x0 : Vec F S512x4096 .bf16) (x1 : Vec F S1024x4096 .bf16) (x2 x3 x4 : Vec F S512x1024 .f32)
  (x5 x6 x7 x8 y11 y12 y13 y14 y15 : Vec F S1x1024 .f32)

/-! What a point leaves in each output: at the first point a running sum starts from nothing, at the others it goes on. -/

theorem first_point (h : cond0_0 i) :
    out0_A_9 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 = k0_pay18 (k0_pay11 x0 x1) x3 x5 x7 (k0_pay13 x2) (k0_pay14 x2) k0_pay16
    ∧ out0_A_10 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 = k0_pay24 (k0_pay11 x0 x1) x3 x5 x6 x7 (k0_pay13 x2) (k0_pay14 x2) k0_pay16
    ∧ out0_A_11 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 = k0_pay6 (k0_pay19 (k0_pay11 x0 x1) (k0_pay15 x2 x7 x8)) k0_pay1
    ∧ out0_A_12 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 = k0_pay7 (k0_pay20 (k0_pay11 x0 x1)) k0_pay2
    ∧ out0_A_13 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 = k0_pay8 (k0_pay21 (k0_pay11 x0 x1) x3 x5 (k0_pay14 x2) k0_pay16) k0_pay3
    ∧ out0_A_14 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 = k0_pay9 (k0_pay22 (k0_pay11 x0 x1) x3 x5 k0_pay16) k0_pay4
    ∧ out0_A_15 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 = k0_pay10 (k0_pay23 (k0_pay11 x0 x1) x3 x4 x5 x7 (k0_pay13 x2) (k0_pay14 x2) k0_pay16) k0_pay5 := by
  refine ⟨(View.read_writes_eq_canon _ _ _ (fun y => cover0_A_9 ..)).trans ?_,
    (View.read_writes_eq_canon _ _ _ (fun y => cover0_A_10 ..)).trans ?_,
    (View.read_writes_eq_canon _ _ _ (fun y => cover0_A_11 ..)).trans ?_,
    (View.read_writes_eq_canon _ _ _ (fun y => cover0_A_12 ..)).trans ?_,
    (View.read_writes_eq_canon _ _ _ (fun y => cover0_A_13 ..)).trans ?_,
    (View.read_writes_eq_canon _ _ _ (fun y => cover0_A_14 ..)).trans ?_,
    (View.read_writes_eq_canon _ _ _ (fun y => cover0_A_15 ..)).trans ?_⟩
  all_goals
    unfold kernelRun0_A
    dsimp only
    sl_unfold_words
    first
    | rw [View.canon_cons_unit_zero (S := S1x1024) zero2, View.readCov_unit_zero (S := S1x1024) _ zero2]
    | rw [View.canon_unit_zero zero2]
    simp only [View.readAt_eq_ld, h3.read_unread, h4.read_unread, h5.read_unread, h6.read_unread, h7.read_unread, h8.read_unread,
      h9.read_unread, h10.read_unread, h11.read_unread, View.ld_unit_zero (S := S512x4096) zero2,
      View.ld_unit_zero (S := S1024x4096) zero2, View.ld_unit_zero (S := S512x1024) zero2, View.ld_unit_zero (S := S1x1024) zero2]

theorem next_point (h : ¬cond0_0 i) :
    out0_B_9 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 y11 y12 y13 y14 y15 = k0_pay18 (k0_pay11 x0 x1) x3 x5 x7 (k0_pay13 x2) (k0_pay14 x2) k0_pay16
    ∧ out0_B_10 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 y11 y12 y13 y14 y15 = k0_pay24 (k0_pay11 x0 x1) x3 x5 x6 x7 (k0_pay13 x2) (k0_pay14 x2) k0_pay16
    ∧ out0_B_11 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 y11 y12 y13 y14 y15 = k0_pay6 (k0_pay19 (k0_pay11 x0 x1) (k0_pay15 x2 x7 x8)) y11
    ∧ out0_B_12 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 y11 y12 y13 y14 y15 = k0_pay7 (k0_pay20 (k0_pay11 x0 x1)) y12
    ∧ out0_B_13 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 y11 y12 y13 y14 y15 = k0_pay8 (k0_pay21 (k0_pay11 x0 x1) x3 x5 (k0_pay14 x2) k0_pay16) y13
    ∧ out0_B_14 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 y11 y12 y13 y14 y15 = k0_pay9 (k0_pay22 (k0_pay11 x0 x1) x3 x5 k0_pay16) y14
    ∧ out0_B_15 c i a3 h3 a4 h4 a5 h5 a6 h6 a7 h7 a8 h8 a9 h9 a10 h10 a11 h11 a12 h12 a13 h13 a14 h14 a15 h15 a16 h16 a17 h17 a18 h18 a19 h19 h
      x0 x1 x2 x3 x4 x5 x6 x7 x8 y11 y12 y13 y14 y15 = k0_pay10 (k0_pay23 (k0_pay11 x0 x1) x3 x4 x5 x7 (k0_pay13 x2) (k0_pay14 x2) k0_pay16) y15 := by
  refine ⟨(View.read_writes_eq_canon _ _ _ (fun y => cover0_B_9 ..)).trans ?_,
    (View.read_writes_eq_canon _ _ _ (fun y => cover0_B_10 ..)).trans ?_,
    (View.read_writes_eq_canon _ _ _ (fun y => cover0_B_11 ..)).trans ?_,
    (View.read_writes_eq_canon _ _ _ (fun y => cover0_B_12 ..)).trans ?_,
    (View.read_writes_eq_canon _ _ _ (fun y => cover0_B_13 ..)).trans ?_,
    (View.read_writes_eq_canon _ _ _ (fun y => cover0_B_14 ..)).trans ?_,
    (View.read_writes_eq_canon _ _ _ (fun y => cover0_B_15 ..)).trans ?_⟩
  all_goals
    unfold kernelRun0_B
    dsimp only
    sl_unfold_words
    rw [View.canon_unit_zero zero2]
    simp only [View.readAt_eq_ld, h3.read_unread, h4.read_unread, h5.read_unread, h6.read_unread, h7.read_unread, h8.read_unread,
      h9.read_unread, h10.read_unread, h11.read_unread, h14.read_unread, h15.read_unread, h16.read_unread, h17.read_unread, h18.read_unread,
      View.ld_unit_zero (S := S512x4096) zero2, View.ld_unit_zero (S := S1024x4096) zero2, View.ld_unit_zero (S := S512x1024) zero2,
      View.ld_unit_zero (S := S1x1024) zero2]

end out

variable (m : (ℓ : Loc nD τ sig) → Buf (Elt Ideal) ℓ)

/-! ## The whole arrays -/

/-- The gradient of the hidden features. -/
def du (c : Dev nD) : S4096x4096.Idx → EReal := (m ((c : Thread nD τ).loc main_arg0) : Vec Ideal S4096x4096 .bf16)
/-- The feed-forward input weight. -/
def wgt (c : Dev nD) : S1024x4096.Idx → EReal := (m ((c : Thread nD τ).loc main_arg1) : Vec Ideal S1024x4096 .bf16)
/-- The scaled input of the block. -/
def resid (c : Dev nD) : S4096x1024.Idx → EReal := (m ((c : Thread nD τ).loc main_arg2) : Vec Ideal S4096x1024 .f32)
/-- The branch that the gate multiplies. -/
def branch (c : Dev nD) : S4096x1024.Idx → EReal := (m ((c : Thread nD τ).loc main_arg3) : Vec Ideal S4096x1024 .f32)
/-- The gradient of the second residual. -/
def later (c : Dev nD) : S4096x1024.Idx → EReal := (m ((c : Thread nD τ).loc main_arg4) : Vec Ideal S4096x1024 .f32)
/-- The modulation scale. -/
def mscale (c : Dev nD) : S1x1024.Idx → EReal := (m ((c : Thread nD τ).loc main_arg5) : Vec Ideal S1x1024 .f32)
/-- The gate. -/
def gate (c : Dev nD) : S1x1024.Idx → EReal := (m ((c : Thread nD τ).loc main_arg6) : Vec Ideal S1x1024 .f32)
/-- The normalisation gain. -/
def gain (c : Dev nD) : S1x1024.Idx → EReal := (m ((c : Thread nD τ).loc main_arg7) : Vec Ideal S1x1024 .f32)
/-- The normalisation offset. -/
def offset (c : Dev nD) : S1x1024.Idx → EReal := (m ((c : Thread nD τ).loc main_arg8) : Vec Ideal S1x1024 .f32)

/-- A row of an array. -/
def arow (x : S4096x1024.Idx → EReal) (R : Fin 4096) (l : Fin 1024) : EReal := x (ix2 R l)
/-- A row vector. -/
def avec (x : S1x1024.Idx → EReal) (l : Fin 1024) : EReal := x (ix2 0 l)
/-- A row of the product. -/
def prod (u : S4096x4096.Idx → EReal) (w : S1024x4096.Idx → EReal) (R : Fin 4096) (l : Fin 1024) : EReal :=
  ∑ k : Fin 4096, u (ix2 R k) * w (ix2 l k)
/-- A row of the residual: the scaled input and the gated branch. -/
def rrow (x y : S4096x1024.Idx → EReal) (g : S1x1024.Idx → EReal) (R : Fin 4096) (l : Fin 1024) : EReal :=
  x (ix2 R l) + (1 + g (ix2 0 l)) * y (ix2 R l)

theorem index_row (t : Fin cfg0.N) : (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0) := by
  revert t; decide +kernel
theorem index_out (t : Fin cfg0.N) : (win0_9.index t 0 = t.val ∧ win0_9.index t 1 = 0) ∧ (win0_10.index t 0 = t.val ∧ win0_10.index t 1 = 0) := by
  revert t; decide +kernel
theorem index_vec (t : Fin cfg0.N) (a : Fin 2) : win0_1.index t a = 0 ∧ win0_5.index t a = 0 ∧ win0_6.index t a = 0
    ∧ win0_7.index t a = 0 ∧ win0_8.index t a = 0 := by
  revert t a; decide +kernel
theorem index_sum (t : Fin cfg0.N) (a : Fin 2) : win0_11.index t a = 0 ∧ win0_12.index t a = 0 ∧ win0_13.index t a = 0
    ∧ win0_14.index t a = 0 ∧ win0_15.index t a = 0 := by
  revert t a; decide +kernel

/-- The offset of a block whose index is zero. -/
theorem offset_zero {f : Fin 2 → ℕ} (h : ∀ a, f a = 0) (s : Fin 2 → ℕ) : (fun a => f a * s a) = fun _ => 0 :=
  funext fun a => by rw [h a, Nat.zero_mul]

/-! A block that never moves is its array. -/

theorem whole_1 (c : Dev nD) (t : Fin cfg0.N) : iblk m c 1 t = wgt m c := by
  have e := offset_zero (fun a => (index_vec t a).1) main_arg1.ty.shape.size
  unfold wgt
  rw [← V_main_arg1 m c]
  exact Memref.read_access_unit_zero (Elt Ideal) main_arg1 e (fun a => by rw [congrFun e a]; simp) (V m c main_arg1)
theorem whole_5 (c : Dev nD) (t : Fin cfg0.N) : iblk m c 5 t = mscale m c := by
  have e := offset_zero (fun a => (index_vec t a).2.1) main_arg5.ty.shape.size
  unfold mscale
  rw [← V_main_arg5 m c]
  exact Memref.read_access_unit_zero (Elt Ideal) main_arg5 e (fun a => by rw [congrFun e a]; simp) (V m c main_arg5)
theorem whole_6 (c : Dev nD) (t : Fin cfg0.N) : iblk m c 6 t = gate m c := by
  have e := offset_zero (fun a => (index_vec t a).2.2.1) main_arg6.ty.shape.size
  unfold gate
  rw [← V_main_arg6 m c]
  exact Memref.read_access_unit_zero (Elt Ideal) main_arg6 e (fun a => by rw [congrFun e a]; simp) (V m c main_arg6)
theorem whole_7 (c : Dev nD) (t : Fin cfg0.N) : iblk m c 7 t = gain m c := by
  have e := offset_zero (fun a => (index_vec t a).2.2.2.1) main_arg7.ty.shape.size
  unfold gain
  rw [← V_main_arg7 m c]
  exact Memref.read_access_unit_zero (Elt Ideal) main_arg7 e (fun a => by rw [congrFun e a]; simp) (V m c main_arg7)
theorem whole_8 (c : Dev nD) (t : Fin cfg0.N) : iblk m c 8 t = offset m c := by
  have e := offset_zero (fun a => (index_vec t a).2.2.2.2) main_arg8.ty.shape.size
  unfold offset
  rw [← V_main_arg8 m c]
  exact Memref.read_access_unit_zero (Elt Ideal) main_arg8 e (fun a => by rw [congrFun e a]; simp) (V m c main_arg8)

/-! A block of rows at point `t` begins at row `512 t`. -/

theorem rows_0 (c : Dev nD) (t : Fin cfg0.N) (r : Fin 512) (k : Fin 4096) :
    (iblk m c 0 t : Vec Ideal S512x4096 .bf16) (ix2 r k) = du m c (ix2 (row t r) k) := by
  unfold du
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = t.val * 512 + r.val; rw [(index_row t).1.1]; omega
  | ⟨1, _⟩ => show win0_0.index t 1 * 4096 + 1 * k.val = k.val; rw [(index_row t).1.2]; omega

/-- The residual that the kernel's first operations form. -/
theorem residual (c : Dev nD) (R : Fin 4096) (l : Fin 1024) :
    (V m c main_v4 : Vec Ideal S4096x1024 .f32) (ix2 R l) = rrow (resid m c) (branch m c) (gate m c) R l := by
  have e : (V m c main_v4 : FVec Ideal S4096x1024 .f32) = addf (F := Ideal) (m ((c : Thread nD τ).loc main_arg2) : FVec Ideal S4096x1024 .f32)
      (mulf (broadcastInDim S4096x1024 ![0, 1] bcast_S1x1024_S4096x1024_0_1 (addf (broadcastInDim S1x1024 ![] bcast_S_S1x1024
        (constant S_ .f32 0x3F800000#32)) (m ((c : Thread nD τ).loc main_arg6) : FVec Ideal S1x1024 .f32)))
        (m ((c : Thread nD τ).loc main_arg3) : FVec Ideal S4096x1024 .f32)) := by
    unfold V
    simp only [StableHlo.after_cons, StableHlo.after_nil]
    rfl
  rw [e]
  unfold rrow resid branch gate
  pointwise []

theorem rows_2 (c : Dev nD) (t : Fin cfg0.N) (r : Fin 512) : brow (iblk m c 2 t) r = rrow (resid m c) (branch m c) (gate m c) (row t r) := by
  funext l
  rw [← residual m c]
  unfold brow iblk
  rw [View.read_apply]
  show V m c main_v4 _ = V m c main_v4 _
  congr 1
  funext a
  apply Fin.ext
  match a with
  | ⟨0, _⟩ => show win0_2.index t 0 * 512 + 1 * r.val = t.val * 512 + r.val; rw [(index_row t).2.1.1]; omega
  | ⟨1, _⟩ => show win0_2.index t 1 * 1024 + 1 * l.val = l.val; rw [(index_row t).2.1.2]; omega

theorem rows_3 (c : Dev nD) (t : Fin cfg0.N) (r : Fin 512) : brow (iblk m c 3 t) r = arow (later m c) (row t r) := by
  funext l
  unfold arow later
  rw [← V_main_arg4 m c]
  unfold brow iblk
  rw [View.read_apply]
  show V m c main_arg4 _ = V m c main_arg4 _
  congr 1
  funext a
  apply Fin.ext
  match a with
  | ⟨0, _⟩ => show win0_3.index t 0 * 512 + 1 * r.val = t.val * 512 + r.val; rw [(index_row t).2.2.1.1]; omega
  | ⟨1, _⟩ => show win0_3.index t 1 * 1024 + 1 * l.val = l.val; rw [(index_row t).2.2.1.2]; omega

theorem rows_4 (c : Dev nD) (t : Fin cfg0.N) (r : Fin 512) : brow (iblk m c 4 t) r = arow (branch m c) (row t r) := by
  funext l
  unfold arow branch
  rw [← V_main_arg3 m c]
  unfold brow iblk
  rw [View.read_apply]
  show V m c main_arg3 _ = V m c main_arg3 _
  congr 1
  funext a
  apply Fin.ext
  match a with
  | ⟨0, _⟩ => show win0_4.index t 0 * 512 + 1 * r.val = t.val * 512 + r.val; rw [(index_row t).2.2.2.1]; omega
  | ⟨1, _⟩ => show win0_4.index t 1 * 1024 + 1 * l.val = l.val; rw [(index_row t).2.2.2.2]; omega

/-- A row of a block's product is a row of the product. -/
theorem rows_prod (c : Dev nD) (t : Fin cfg0.N) (r : Fin 512) : bprod (iblk m c 0 t) (iblk m c 1 t) r = prod (du m c) (wgt m c) (row t r) :=
  funext fun l => Finset.sum_congr rfl fun k _ =>
    congrArg₂ (fun a b : EReal => a * b) (rows_0 m c t r k) (congrFun (whole_1 m c t) (ix2 l k))

theorem vec_5 (c : Dev nD) (t : Fin cfg0.N) : vec (iblk m c 5 t) = avec (mscale m c) := congrArg vec (whole_5 m c t)
theorem vec_6 (c : Dev nD) (t : Fin cfg0.N) : vec (iblk m c 6 t) = avec (gate m c) := congrArg vec (whole_6 m c t)
theorem vec_7 (c : Dev nD) (t : Fin cfg0.N) : vec (iblk m c 7 t) = avec (gain m c) := congrArg vec (whole_7 m c t)
theorem vec_8 (c : Dev nD) (t : Fin cfg0.N) : vec (iblk m c 8 t) = avec (offset m c) := congrArg vec (whole_8 m c t)

/-! ## What the result arrays end holding -/

/-- The gradient of the residual. -/
def outR (c : Dev nD) : Vec Ideal S4096x1024 .f32 := fun i => (fun (R : Fin 4096) l => dr (rrow (resid m c) (branch m c) (gate m c) R)
  (prod (du m c) (wgt m c) R) (arow (later m c) R) (avec (mscale m c)) (avec (gain m c)) l) ⟨(i 0).val, (i 0).isLt⟩ ⟨(i 1).val, (i 1).isLt⟩
/-- The gradient of the gated branch. -/
def outY (c : Dev nD) : Vec Ideal S4096x1024 .bf16 := fun i => (fun (R : Fin 4096) l => dy (rrow (resid m c) (branch m c) (gate m c) R)
  (prod (du m c) (wgt m c) R) (arow (later m c) R) (avec (mscale m c)) (avec (gate m c)) (avec (gain m c)) l) ⟨(i 0).val, (i 0).isLt⟩ ⟨(i 1).val, (i 1).isLt⟩
/-- The sum over the rows, as a row vector. -/
def total (part : Fin 4096 → Fin 1024 → EReal) : Vec Ideal S1x1024 .f32 := fun i => ∑ R, part R ⟨(i 1).val, (i 1).isLt⟩
theorem eq_total {x : Vec Ideal S1x1024 .f32} {part : Fin 4096 → Fin 1024 → EReal} (h : ∀ l, x (ix2 0 l) = ∑ R, part R l) : x = total part := by
  funext j
  obtain ⟨z, l, rfl⟩ : ∃ (z : Fin 1) (l : Fin 1024), j = ix2 z l := ⟨j 0, j 1, eq_ix2 j⟩
  obtain rfl := Subsingleton.elim z 0
  exact h l
/-- The gradient of the modulation scale. -/
def sumScale (c : Dev nD) : Vec Ideal S1x1024 .f32 := total fun R => partScale (rrow (resid m c) (branch m c) (gate m c) R)
  (prod (du m c) (wgt m c) R) (avec (gain m c)) (avec (offset m c))
/-- The gradient of the modulation shift. -/
def sumShift (c : Dev nD) : Vec Ideal S1x1024 .f32 := total (prod (du m c) (wgt m c))
/-- The gradient of the normalisation gain. -/
def sumGain (c : Dev nD) : Vec Ideal S1x1024 .f32 := total fun R => partGain (rrow (resid m c) (branch m c) (gate m c) R)
  (prod (du m c) (wgt m c) R) (arow (later m c) R) (avec (mscale m c))
/-- The gradient of the normalisation offset. -/
def sumOffset (c : Dev nD) : Vec Ideal S1x1024 .f32 := total fun R =>
  dx (prod (du m c) (wgt m c) R) (arow (later m c) R) (avec (mscale m c))
/-- The gradient of the gate. -/
def sumGate (c : Dev nD) : Vec Ideal S1x1024 .f32 := total fun R => partGate (rrow (resid m c) (branch m c) (gate m c) R)
  (prod (du m c) (wgt m c) R) (arow (later m c) R) (arow (branch m c) R) (avec (mscale m c)) (avec (gain m c))

theorem flushed_9_eq (c : Dev nD) (t : Fin cfg0.N) :
    (dats m 0 c).flushed 9 t = ((cfg0.win 9).blk t).view.read (Elt Ideal) (outR m c) := by
  have h : (outsAt0 m c t.val t.isLt).1 = k0_pay18 (k0_pay11 (iblk m c 0 t) (iblk m c 1 t)) (iblk m c 3 t) (iblk m c 5 t) (iblk m c 7 t)
      (k0_pay13 (iblk m c 2 t)) (k0_pay14 (iblk m c 2 t)) k0_pay16 := by
    by_cases h0 : t.val % 8 = 0
    · simp only [outsAt0_A m c t h0, first_point]
    · simp only [outsAt0_B m c t h0, next_point]
  rw [Value.flushed9, h]
  funext j
  rw [View.read_apply]
  obtain ⟨r, l, rfl⟩ : ∃ (r : Fin 512) (l : Fin 1024), j = ix2 r l := ⟨j 0, j 1, eq_ix2 j⟩
  refine (pay_dr (iblk m c 0 t) (iblk m c 1 t) (iblk m c 2 t) (iblk m c 3 t) (iblk m c 5 t) (iblk m c 7 t) r l).trans ?_
  rw [rows_2, rows_prod, rows_3, vec_5, vec_7]
  refine congrArg₂ (fun (R : Fin 4096) l => dr (rrow (resid m c) (branch m c) (gate m c) R)
    (prod (du m c) (wgt m c) R) (arow (later m c) R) (avec (mscale m c)) (avec (gain m c)) l) (Fin.ext ?_) (Fin.ext ?_)
  · show t.val * 512 + r.val = win0_9.index t 0 * 512 + 1 * r.val
    rw [(index_out t).1.1]
    omega
  · show l.val = win0_9.index t 1 * 1024 + 1 * l.val
    rw [(index_out t).1.2]
    omega

theorem flushed_10_eq (c : Dev nD) (t : Fin cfg0.N) :
    (dats m 0 c).flushed 10 t = ((cfg0.win 10).blk t).view.read (Elt Ideal) (outY m c) := by
  have h : (outsAt0 m c t.val t.isLt).2.1 = k0_pay24 (k0_pay11 (iblk m c 0 t) (iblk m c 1 t)) (iblk m c 3 t) (iblk m c 5 t) (iblk m c 6 t) (iblk m c 7 t)
      (k0_pay13 (iblk m c 2 t)) (k0_pay14 (iblk m c 2 t)) k0_pay16 := by
    by_cases h0 : t.val % 8 = 0
    · simp only [outsAt0_A m c t h0, first_point]
    · simp only [outsAt0_B m c t h0, next_point]
  rw [Value.flushed10, h]
  funext j
  rw [View.read_apply]
  obtain ⟨r, l, rfl⟩ : ∃ (r : Fin 512) (l : Fin 1024), j = ix2 r l := ⟨j 0, j 1, eq_ix2 j⟩
  refine (pay_dy (iblk m c 0 t) (iblk m c 1 t) (iblk m c 2 t) (iblk m c 3 t) (iblk m c 5 t) (iblk m c 6 t) (iblk m c 7 t) r l).trans ?_
  rw [rows_2, rows_prod, rows_3, vec_5, vec_6, vec_7]
  refine congrArg₂ (fun (R : Fin 4096) l => dy (rrow (resid m c) (branch m c) (gate m c) R)
    (prod (du m c) (wgt m c) R) (arow (later m c) R) (avec (mscale m c)) (avec (gate m c)) (avec (gain m c)) l) (Fin.ext ?_) (Fin.ext ?_)
  · show t.val * 512 + r.val = win0_10.index t 0 * 512 + 1 * r.val
    rw [(index_out t).2.1]
    omega
  · show l.val = win0_10.index t 1 * 1024 + 1 * l.val
    rw [(index_out t).2.2]
    omega

/-! The five running sums: their blocks stay in place, and are written out after the last point. -/

/-- The last point. -/
def last : Fin cfg0.N := ⟨7, show 7 < 8 by omega⟩
theorem last_point {t : Fin cfg0.N} (h : t.val % 8 = 7) : t = last := by
  have h8 : t.val < 8 := t.isLt
  exact Fin.ext (show t.val = 7 by omega)

/-- What starts at the first point and gains each point's rows ends as the sum over all rows. -/
theorem accumulated (o : (n : ℕ) → n < cfg0.N → Vec Ideal S1x1024 .f32) (part : Fin 4096 → Fin 1024 → EReal)
    (h0 : ∀ t : Fin cfg0.N, t.val % 8 = 0 → ∀ l, o t.val t.isLt (ix2 0 l) = ∑ r, part (row t r) l)
    (hs : ∀ t : Fin cfg0.N, ¬t.val % 8 = 0 → ∀ l, o t.val t.isLt (ix2 0 l)
      = o (t.val - 1) (Nat.lt_of_le_of_lt (Nat.sub_le _ _) t.isLt) (ix2 0 l) + ∑ r, part (row t r) l) :
    o last.val last.isLt = total part := by
  refine eq_total fun l => ?_
  refine (steps_sum (fun n h => o n h (ix2 0 l)) (fun n h => ∑ r, part (row ⟨n, h⟩ r) l) (fun h => h0 ⟨0, h⟩ rfl l)
    (fun n h => hs ⟨n + 1, h⟩ ?_ l) 7 last.isLt).trans (sum_rows fun R => part R l)
  have hN : n + 1 < 8 := h
  show ¬(n + 1) % 8 = 0
  omega

/-- A block with index zero covers its array. -/
theorem covered {f : Fin 2 → ℕ} (h : ∀ a, f a = 0) (i : S1x1024.Idx) (a : Fin 2) :
    f a * S1x1024.size a ≤ (i a).val ∧ (i a).val < f a * S1x1024.size a + S1x1024.size a := by
  rw [h a, Nat.zero_mul, Nat.zero_add]
  exact ⟨Nat.zero_le _, (i a).isLt⟩

theorem final_11 (c : Dev nD) : (dats m 0 c).arrAt 11 cfg0.N = sumScale m c := by
  have e := fun a => (index_sum last a).1
  have e' := offset_zero e main_v5_2.ty.shape.size
  refine (dats m 0 c).arrAt_eq_of_cover 11 (sumScale m c) (fun t hf => ?_) fun i => ⟨last, (flush0_11 _).mpr rfl, ?_⟩
  · obtain rfl := last_point ((flush0_11 t).mp hf)
    rw [Value.flushed11]
    refine (accumulated (fun n h => (outsAt0 m c n h).2.2.1) _ (fun t h l => ?_) fun t h l => ?_).trans
      (Memref.read_access_unit_zero (Elt Ideal) main_v5_2 e' (fun a => by rw [congrFun e' a]; simp) (sumScale m c)).symm
    · simp only [outsAt0_A m c t h, first_point, pay_sum_scale, pay_zero, zero_add, rows_2, rows_prod, vec_7, vec_8]
    · simp only [outsAt0_B m c t h, next_point, pay_sum_scale, rows_2, rows_prod, vec_7, vec_8]
  · show i ∈ ((View.whole main_v5_2).slice (win0_11.rect last)).set
    rw [View.set_slice_whole, Rect.mem_set_unit]
    exact covered e i

theorem final_12 (c : Dev nD) : (dats m 0 c).arrAt 12 cfg0.N = sumShift m c := by
  have e := fun a => (index_sum last a).2.1
  have e' := offset_zero e main_v5_3.ty.shape.size
  refine (dats m 0 c).arrAt_eq_of_cover 12 (sumShift m c) (fun t hf => ?_) fun i => ⟨last, (flush0_12 _).mpr rfl, ?_⟩
  · obtain rfl := last_point ((flush0_12 t).mp hf)
    rw [Value.flushed12]
    refine (accumulated (fun n h => (outsAt0 m c n h).2.2.2.1) _ (fun t h l => ?_) fun t h l => ?_).trans
      (Memref.read_access_unit_zero (Elt Ideal) main_v5_3 e' (fun a => by rw [congrFun e' a]; simp) (sumShift m c)).symm
    · simp only [outsAt0_A m c t h, first_point, pay_sum_shift, pay_zero, zero_add, rows_prod]
    · simp only [outsAt0_B m c t h, next_point, pay_sum_shift, rows_prod]
  · show i ∈ ((View.whole main_v5_3).slice (win0_12.rect last)).set
    rw [View.set_slice_whole, Rect.mem_set_unit]
    exact covered e i

theorem final_13 (c : Dev nD) : (dats m 0 c).arrAt 13 cfg0.N = sumGain m c := by
  have e := fun a => (index_sum last a).2.2.1
  have e' := offset_zero e main_v5_4.ty.shape.size
  refine (dats m 0 c).arrAt_eq_of_cover 13 (sumGain m c) (fun t hf => ?_) fun i => ⟨last, (flush0_13 _).mpr rfl, ?_⟩
  · obtain rfl := last_point ((flush0_13 t).mp hf)
    rw [Value.flushed13]
    refine (accumulated (fun n h => (outsAt0 m c n h).2.2.2.2.1) _ (fun t h l => ?_) fun t h l => ?_).trans
      (Memref.read_access_unit_zero (Elt Ideal) main_v5_4 e' (fun a => by rw [congrFun e' a]; simp) (sumGain m c)).symm
    · simp only [outsAt0_A m c t h, first_point, pay_sum_gain, pay_zero, zero_add, rows_2, rows_prod, rows_3, vec_5]
    · simp only [outsAt0_B m c t h, next_point, pay_sum_gain, rows_2, rows_prod, rows_3, vec_5]
  · show i ∈ ((View.whole main_v5_4).slice (win0_13.rect last)).set
    rw [View.set_slice_whole, Rect.mem_set_unit]
    exact covered e i

theorem final_14 (c : Dev nD) : (dats m 0 c).arrAt 14 cfg0.N = sumOffset m c := by
  have e := fun a => (index_sum last a).2.2.2.1
  have e' := offset_zero e main_v5_5.ty.shape.size
  refine (dats m 0 c).arrAt_eq_of_cover 14 (sumOffset m c) (fun t hf => ?_) fun i => ⟨last, (flush0_14 _).mpr rfl, ?_⟩
  · obtain rfl := last_point ((flush0_14 t).mp hf)
    rw [Value.flushed14]
    refine (accumulated (fun n h => (outsAt0 m c n h).2.2.2.2.2.1) _ (fun t h l => ?_) fun t h l => ?_).trans
      (Memref.read_access_unit_zero (Elt Ideal) main_v5_5 e' (fun a => by rw [congrFun e' a]; simp) (sumOffset m c)).symm
    · simp only [outsAt0_A m c t h, first_point, pay_sum_offset, pay_zero, zero_add, rows_prod, rows_3, vec_5]
    · simp only [outsAt0_B m c t h, next_point, pay_sum_offset, rows_prod, rows_3, vec_5]
  · show i ∈ ((View.whole main_v5_5).slice (win0_14.rect last)).set
    rw [View.set_slice_whole, Rect.mem_set_unit]
    exact covered e i

theorem final_15 (c : Dev nD) : (dats m 0 c).arrAt 15 cfg0.N = sumGate m c := by
  have e := fun a => (index_sum last a).2.2.2.2
  have e' := offset_zero e main_v5_6.ty.shape.size
  refine (dats m 0 c).arrAt_eq_of_cover 15 (sumGate m c) (fun t hf => ?_) fun i => ⟨last, (flush0_15 _).mpr rfl, ?_⟩
  · obtain rfl := last_point ((flush0_15 t).mp hf)
    rw [Value.flushed15]
    refine (accumulated (fun n h => (outsAt0 m c n h).2.2.2.2.2.2) _ (fun t h l => ?_) fun t h l => ?_).trans
      (Memref.read_access_unit_zero (Elt Ideal) main_v5_6 e' (fun a => by rw [congrFun e' a]; simp) (sumGate m c)).symm
    · simp only [outsAt0_A m c t h, first_point, pay_sum_gate, pay_zero, zero_add, rows_2, rows_prod, rows_3, rows_4, vec_5, vec_7]
    · simp only [outsAt0_B m c t h, next_point, pay_sum_gate, rows_2, rows_prod, rows_3, rows_4, vec_5, vec_7]
  · show i ∈ ((View.whole main_v5_6).slice (win0_15.rect last)).set
    rw [View.set_slice_whole, Rect.mem_set_unit]
    exact covered e i

theorem final_9 (c : Dev nD) : (dats m 0 c).arrAt 9 cfg0.N = outR m c :=
  (dats m 0 c).arrAt_eq_of_cover 9 (outR m c) (fun t _ => flushed_9_eq m c t) fun i => by
    have h0 : (i 0).val < 4096 := (i 0).isLt
    have h1 : (i 1).val < 1024 := (i 1).isLt
    obtain ⟨t, ht⟩ : ∃ t : Fin cfg0.N, t.val = (i 0).val / 512 := ⟨⟨(i 0).val / 512, show _ < 8 by omega⟩, rfl⟩
    refine ⟨t, flush0_9 t, ?_⟩
    show i ∈ ((View.whole main_v5_0).slice (win0_9.rect t)).set
    rw [View.set_slice_whole, Rect.mem_set_unit]
    have e := (index_out t).1
    intro a
    match a with
    | ⟨0, _⟩ => show win0_9.index t 0 * 512 ≤ (i 0).val ∧ (i 0).val < win0_9.index t 0 * 512 + 512
                rw [e.1]; omega
    | ⟨1, _⟩ => show win0_9.index t 1 * 1024 ≤ (i 1).val ∧ (i 1).val < win0_9.index t 1 * 1024 + 1024
                rw [e.2]; omega

theorem final_10 (c : Dev nD) : (dats m 0 c).arrAt 10 cfg0.N = outY m c :=
  (dats m 0 c).arrAt_eq_of_cover 10 (outY m c) (fun t _ => flushed_10_eq m c t) fun i => by
    have h0 : (i 0).val < 4096 := (i 0).isLt
    have h1 : (i 1).val < 1024 := (i 1).isLt
    obtain ⟨t, ht⟩ : ∃ t : Fin cfg0.N, t.val = (i 0).val / 512 := ⟨⟨(i 0).val / 512, show _ < 8 by omega⟩, rfl⟩
    refine ⟨t, flush0_10 t, ?_⟩
    show i ∈ ((View.whole main_v5_1).slice (win0_10.rect t)).set
    rw [View.set_slice_whole, Rect.mem_set_unit]
    have e := (index_out t).2
    intro a
    match a with
    | ⟨0, _⟩ => show win0_10.index t 0 * 512 ≤ (i 0).val ∧ (i 0).val < win0_10.index t 0 * 512 + 512
                rw [e.1]; omega
    | ⟨1, _⟩ => show win0_10.index t 1 * 1024 ≤ (i 1).val ∧ (i 1).val < win0_10.index t 1 * 1024 + 1024
                rw [e.2]; omega

/-! ## The reference -/

section reference
open Cert.Reference5Ideal.Read
variable (x0 : (⟨S4096x4096, .bf16⟩ : BufTy).Contents (Elt Ideal)) (x1 : (⟨S1024x4096, .bf16⟩ : BufTy).Contents (Elt Ideal))
  (x2 x3 x4 : (⟨S4096x1024, .f32⟩ : BufTy).Contents (Elt Ideal)) (x5 x6 x7 x8 : (⟨S1x1024, .f32⟩ : BufTy).Contents (Elt Ideal))
  (R : Fin 4096) (l : Fin 1024) (z : Fin 1)

theorem ref_row : val_main_v5 (F := Ideal) x2 x3 x6 (ix2 R l) = rrow x2 x3 x6 R l := by
  unfold rrow
  pointwise [val_main_v5, val_main_v4, val_main_v3, val_main_v2, val_main_v1, val_main_cst_0]

theorem ref_mean : val_main_v9 (F := Ideal) x2 x3 x6 (ix2 R z) = mean (rrow x2 x3 x6 R) := by
  have e := fun l => ref_row x2 x3 x6 R l
  unfold mean
  simp only [← e]
  pointwise [val_main_v9, val_main_v8, val_main_cst_2, val_main_v7, val_main_v6, val_main_cst_1]

theorem ref_about : val_main_v20 (F := Ideal) x2 x3 x6 (ix2 R l) = rrow x2 x3 x6 R l - mean (rrow x2 x3 x6 R) := by
  rw [← ref_row, ← ref_mean x2 x3 x6 R 0]
  pointwise [val_main_v20, val_main_v19]

theorem ref_about' : val_main_v11 (F := Ideal) x2 x3 x6 (ix2 R l) = rrow x2 x3 x6 R l - mean (rrow x2 x3 x6 R) := by
  rw [← ref_row, ← ref_mean x2 x3 x6 R 0]
  pointwise [val_main_v11, val_main_v10]

theorem ref_spread : val_main_v22 (F := Ideal) x2 x3 x6 (ix2 R z) = spread (rrow x2 x3 x6 R) := by
  have e := fun l => ref_about' x2 x3 x6 R l
  unfold spread
  simp only [← e]
  pointwise [val_main_v22, val_main_v21, val_main_cst_6, val_main_v18, val_main_v17, val_main_cst_5, val_main_v16, val_main_v15, val_main_cst_4, val_main_v12]

theorem ref_scale : val_main_v23 (F := Ideal) x2 x3 x6 (ix2 R z) = scale (rrow x2 x3 x6 R) := by
  unfold scale
  rw [← ref_spread x2 x3 x6 R z]
  pointwise [val_main_v23]

theorem ref_normed : val_main_v28 (F := Ideal) x2 x3 x6 (ix2 R l) = normed (rrow x2 x3 x6 R) l := by
  unfold normed
  rw [← ref_about, ← ref_scale x2 x3 x6 R 0]
  pointwise [val_main_v28, val_main_v27]

theorem ref_prod : val_main_v46 (F := Ideal) x0 x1 (ix2 R l) = prod x0 x1 R l := by
  unfold prod
  pointwise [val_main_v46, val_main_v43, val_main_v39]

theorem ref_dx : val_main_v54 (F := Ideal) x0 x1 x4 x5 (ix2 R l) = dx (prod x0 x1 R) (arow x4 R) (avec x5) l := by
  unfold dx arow avec
  rw [← ref_prod]
  pointwise [val_main_v54, val_main_v53, val_main_v52, val_main_v34, val_main_v33, val_main_cst_8, val_main_v45, val_main_v44, val_main_cst_10]

theorem ref_dn : val_main_v61 (F := Ideal) x0 x1 x4 x5 x7 (ix2 R l) = dn (prod x0 x1 R) (arow x4 R) (avec x5) (avec x7) l := by
  unfold dn
  rw [← ref_dx]
  unfold avec
  pointwise [val_main_v61, val_main_v60]

theorem ref_viaScale : val_main_v75 (F := Ideal) x0 x1 x2 x3 x4 x5 x6 x7 (ix2 R l)
    = viaScale (rrow x2 x3 x6 R) (dn (prod x0 x1 R) (arow x4 R) (avec x5) (avec x7)) l := by
  have e0 := fun l => ref_dn x0 x1 x4 x5 x7 R l
  have e1 := fun l => ref_about x2 x3 x6 R l
  unfold viaScale
  rw [← ref_about']
  simp only [← e0, ← e1, ← ref_scale x2 x3 x6 R 0, ← ref_spread x2 x3 x6 R 0]
  pointwise [val_main_v75, val_main_v74, val_main_v73, val_main_cst_18, val_main_v72, val_main_v71, val_main_cst_17, val_main_v67,
    val_main_v64, val_main_v63, val_main_cst_15, val_main_v62, val_main_v26, val_main_v25, val_main_cst_7, val_main_v24, val_main_v14, val_main_v13, val_main_cst_3]
  simp only [Finset.univ_unique, Finset.sum_singleton, Fin.default_eq_zero]

theorem ref_steps : val_main_v85 (F := Ideal) x0 x1 x2 x3 x4 x5 x6 x7 (ix2 R l)
    = gradSteps (rrow x2 x3 x6 R) (dn (prod x0 x1 R) (arow x4 R) (avec x5) (avec x7)) l := by
  have e0 := fun l => ref_dn x0 x1 x4 x5 x7 R l
  have e1 := fun l => ref_viaScale x0 x1 x2 x3 x4 x5 x6 x7 R l
  unfold gradSteps viaMean
  simp only [← e0, ← e1, ← ref_scale x2 x3 x6 R 0]
  pointwise [val_main_v85, val_main_v84, val_main_v83, val_main_cst_21, val_main_v82, val_main_v81, val_main_cst_20, val_main_v80,
    val_main_v79, val_main_v78, val_main_v77, val_main_cst_19, val_main_v76, val_main_v70, val_main_v69, val_main_cst_16, val_main_v68,
    val_main_v66, val_main_v65]
  simp only [Finset.univ_unique, Finset.sum_singleton, Fin.default_eq_zero]

/-! With finite arguments the reference's steps come to the gradient that the kernel forms. -/

variable (h0 : ∀ i, Finite (x0 i)) (h1 : ∀ i, Finite (x1 i)) (h2 : ∀ i, Finite (x2 i)) (h3 : ∀ i, Finite (x3 i))
  (h4 : ∀ i, Finite (x4 i)) (h5 : ∀ i, Finite (x5 i)) (h6 : ∀ i, Finite (x6 i)) (h7 : ∀ i, Finite (x7 i))

include h2 h3 h6 in
theorem finite_row : Finite (rrow x2 x3 x6 R l) := (h2 _).add ((Finite.one.add (h6 _)).mul (h3 _))

include h0 h1 h4 h5 h7 in
theorem finite_dn : Finite (dn (prod x0 x1 R) (arow x4 R) (avec x5) (avec x7) l) :=
  ((ofBits_alpha.mul (h4 _)).add ((Finite.sum fun _ => (h0 _).mul (h1 _)).mul (Finite.one.add (h5 _)))).mul (h7 _)

include h0 h1 h2 h3 h4 h5 h6 h7

theorem ref_dr : val_main_v85 (F := Ideal) x0 x1 x2 x3 x4 x5 x6 x7 (ix2 R l)
    = dr (rrow x2 x3 x6 R) (prod x0 x1 R) (arow x4 R) (avec x5) (avec x7) l :=
  (ref_steps ..).trans (gradSteps_eq (fun k => finite_row x2 x3 x6 R k h2 h3 h6) (fun k => finite_dn x0 x1 x4 x5 x7 R k h0 h1 h4 h5 h7) l)

theorem ref_dy : val_main_v91 (F := Ideal) x0 x1 x2 x3 x4 x5 x6 x7 (ix2 R l)
    = dy (rrow x2 x3 x6 R) (prod x0 x1 R) (arow x4 R) (avec x5) (avec x6) (avec x7) l := by
  unfold dy
  rw [← ref_dr x0 x1 x2 x3 x4 x5 x6 x7 R l h0 h1 h2 h3 h4 h5 h6 h7]
  unfold avec
  pointwise [val_main_v91, val_main_v87, val_main_v86, val_main_v2, val_main_v1, val_main_cst_0]

theorem ref_gate : val_main_v90 (F := Ideal) x0 x1 x2 x3 x4 x5 x6 x7 = total fun R =>
    partGate (rrow x2 x3 x6 R) (prod x0 x1 R) (arow x4 R) (arow x3 R) (avec x5) (avec x7) := by
  have e := fun R l => ref_dr x0 x1 x2 x3 x4 x5 x6 x7 R l h0 h1 h2 h3 h4 h5 h6 h7
  refine eq_total fun l => ?_
  unfold partGate
  simp only [← e]
  unfold arow
  pointwise [val_main_v90, val_main_v89, val_main_cst_22, val_main_v88]

omit h0 h1 h2 h3 h4 h5 h6 h7

theorem ref_sum_scale : val_main_v51 (F := Ideal) x0 x1 x2 x3 x6 x7 x8 = total fun R =>
    partScale (rrow x2 x3 x6 R) (prod x0 x1 R) (avec x7) (avec x8) := by
  have e0 := fun R l => ref_prod x0 x1 R l
  have e1 := fun R l => ref_normed x2 x3 x6 R l
  refine eq_total fun l => ?_
  unfold partScale
  simp only [← e0, ← e1]
  unfold avec
  pointwise [val_main_v51, val_main_v50, val_main_cst_12, val_main_v49, val_main_v32, val_main_v31, val_main_v30, val_main_v29]
  exact Finset.sum_congr rfl fun _ _ => mul_comm ..

theorem ref_sum_shift : val_main_v48 (F := Ideal) x0 x1 = total (prod x0 x1) := by
  have e0 := fun R l => ref_prod x0 x1 R l
  refine eq_total fun l => ?_
  simp only [← e0]
  pointwise [val_main_v48, val_main_v47, val_main_cst_11]

theorem ref_sum_gain : val_main_v59 (F := Ideal) x0 x1 x2 x3 x4 x5 x6 = total fun R =>
    partGain (rrow x2 x3 x6 R) (prod x0 x1 R) (arow x4 R) (avec x5) := by
  have e0 := fun R l => ref_dx x0 x1 x4 x5 R l
  have e1 := fun R l => ref_normed x2 x3 x6 R l
  refine eq_total fun l => ?_
  unfold partGain
  simp only [← e0, ← e1]
  pointwise [val_main_v59, val_main_v58, val_main_cst_14, val_main_v57]
  exact Finset.sum_congr rfl fun _ _ => mul_comm ..

theorem ref_sum_offset : val_main_v56 (F := Ideal) x0 x1 x4 x5 = total fun R => dx (prod x0 x1 R) (arow x4 R) (avec x5) := by
  have e0 := fun R l => ref_dx x0 x1 x4 x5 R l
  refine eq_total fun l => ?_
  simp only [← e0]
  pointwise [val_main_v56, val_main_v55, val_main_cst_13]

end reference

/-! ## The two programs -/

instance preFacts : Cert.Pre_finite5.Facts where
  bitsLt_bf16_f32 := by decide
  bcast_S_S4096x4096 := by decide
  bcast_S_S1024x4096 := by decide
  bcast_S_S4096x1024 := by decide
  bcast_S_S1x1024 := by decide

section
variable (h : Cert.Pre_Kernel5Ideal_finite5 m) (c : Dev nD)
include h

theorem finite_du (i) : Finite (du m c i) := finite_of_below (h c).1 i
theorem finite_wgt (i) : Finite (wgt m c i) := finite_of_below (h c).2.1 i
theorem finite_resid (i) : Finite (resid m c i) := finite_of_below (h c).2.2.1 i
theorem finite_branch (i) : Finite (branch m c i) := finite_of_below (h c).2.2.2.1 i
theorem finite_later (i) : Finite (later m c i) := finite_of_below (h c).2.2.2.2.1 i
theorem finite_mscale (i) : Finite (mscale m c i) := finite_of_below (h c).2.2.2.2.2.1 i
theorem finite_gate (i) : Finite (gate m c i) := finite_of_below (h c).2.2.2.2.2.2.1 i
theorem finite_gain (i) : Finite (gain m c i) := finite_of_below (h c).2.2.2.2.2.2.2 i

theorem value_r : outR m c = Cert.Reference5Ideal.Read.val_main_v85 (F := Ideal) (du m c) (wgt m c) (resid m c) (branch m c) (later m c)
    (mscale m c) (gate m c) (gain m c) := by
  funext j
  obtain ⟨R, l, rfl⟩ : ∃ (R : Fin 4096) (l : Fin 1024), j = ix2 R l := ⟨j 0, j 1, eq_ix2 j⟩
  exact (ref_dr _ _ _ _ _ _ _ _ R l (finite_du m h c) (finite_wgt m h c) (finite_resid m h c) (finite_branch m h c) (finite_later m h c)
    (finite_mscale m h c) (finite_gate m h c) (finite_gain m h c)).symm

theorem value_y : outY m c = Cert.Reference5Ideal.Read.val_main_v91 (F := Ideal) (du m c) (wgt m c) (resid m c) (branch m c) (later m c)
    (mscale m c) (gate m c) (gain m c) := by
  funext j
  obtain ⟨R, l, rfl⟩ : ∃ (R : Fin 4096) (l : Fin 1024), j = ix2 R l := ⟨j 0, j 1, eq_ix2 j⟩
  exact (ref_dy _ _ _ _ _ _ _ _ R l (finite_du m h c) (finite_wgt m h c) (finite_resid m h c) (finite_branch m h c) (finite_later m h c)
    (finite_mscale m h c) (finite_gate m h c) (finite_gain m h c)).symm

theorem value_gate : sumGate m c = Cert.Reference5Ideal.Read.val_main_v90 (F := Ideal) (du m c) (wgt m c) (resid m c) (branch m c) (later m c)
    (mscale m c) (gate m c) (gain m c) :=
  (ref_gate _ _ _ _ _ _ _ _ (finite_du m h c) (finite_wgt m h c) (finite_resid m h c) (finite_branch m h c) (finite_later m h c)
    (finite_mscale m h c) (finite_gate m h c) (finite_gain m h c)).symm

end

set_option maxHeartbeats 1000000 in
theorem algebraic : Cert.algebraic_Kernel5Ideal_Reference5Ideal_pre_finite5 := fun m g m' g' hpre hargs =>
  ⟨fun c => Cert.Reference5Ideal.Read.val_main_v85 (F := Ideal) (du m c) (wgt m c) (resid m c) (branch m c) (later m c) (mscale m c) (gate m c) (gain m c),
    fun c => Cert.Reference5Ideal.Read.val_main_v91 (F := Ideal) (du m c) (wgt m c) (resid m c) (branch m c) (later m c) (mscale m c) (gate m c) (gain m c),
    fun c => Cert.Reference5Ideal.Read.val_main_v51 (F := Ideal) (du m c) (wgt m c) (resid m c) (branch m c) (gate m c) (gain m c) (offset m c),
    fun c => Cert.Reference5Ideal.Read.val_main_v48 (F := Ideal) (du m c) (wgt m c),
    fun c => Cert.Reference5Ideal.Read.val_main_v59 (F := Ideal) (du m c) (wgt m c) (resid m c) (branch m c) (later m c) (mscale m c) (gate m c),
    fun c => Cert.Reference5Ideal.Read.val_main_v56 (F := Ideal) (du m c) (wgt m c) (later m c) (mscale m c),
    fun c => Cert.Reference5Ideal.Read.val_main_v90 (F := Ideal) (du m c) (wgt m c) (resid m c) (branch m c) (later m c) (mscale m c) (gate m c) (gain m c),
    (θ_run _ _ _).mono (fun r h c => ⟨(h c).1.trans ((final_9 m c).trans (value_r m hpre c)),
      (h c).2.1.trans ((final_10 m c).trans (value_y m hpre c)),
      (h c).2.2.1.trans ((final_11 m c).trans (ref_sum_scale ..).symm),
      (h c).2.2.2.1.trans ((final_12 m c).trans (ref_sum_shift ..).symm),
      (h c).2.2.2.2.1.trans ((final_13 m c).trans (ref_sum_gain ..).symm),
      (h c).2.2.2.2.2.1.trans ((final_14 m c).trans (ref_sum_offset ..).symm),
      (h c).2.2.2.2.2.2.1.trans ((final_15 m c).trans (value_gate m hpre c)), (h c).2.2.2.2.2.2.2⟩) (Value.run_blocks m g),
    (θ_run _ _ _).mono (fun r h c => by
      obtain ⟨a0, a1, a2, a3, a4, a5, a6, a7, a8⟩ := hargs c
      beta_reduce
      unfold du wgt resid branch later mscale gate gain offset
      rw [← a0, ← a1, ← a2, ← a3, ← a4, ← a5, ← a6, ← a7, ← a8]
      exact ⟨(h c).1.trans (Cert.Reference5Ideal.Read.val_main_v85_eq m' c),
        (h c).2.1.trans (Cert.Reference5Ideal.Read.val_main_v91_eq m' c),
        (h c).2.2.1.trans (Cert.Reference5Ideal.Read.val_main_v51_eq ..),
        (h c).2.2.2.1.trans (Cert.Reference5Ideal.Read.val_main_v48_eq ..),
        (h c).2.2.2.2.1.trans (Cert.Reference5Ideal.Read.val_main_v59_eq ..),
        (h c).2.2.2.2.2.1.trans (Cert.Reference5Ideal.Read.val_main_v56_eq ..),
        (h c).2.2.2.2.2.2.1.trans (Cert.Reference5Ideal.Read.val_main_v90_eq m' c), (h c).2.2.2.2.2.2.2⟩) (Cert.Reference5Ideal.Value.run m' g')⟩

end Cert.DH2

end
-- ==== Proof.ConvRows.lean ====
/-
  A causal convolution of one channel over four rows, the sigmoid linear unit after it, and the two backward: on signals of one
  channel, and on the blocks of rows that one grid point holds, with the eight rows before and after it.
-/
module

public import proofs.«01_k».proof.Defs
public import proofs.«01_k».proof.Proof.Gen.Kernel6Ideal.Value
public import Idealize.ShloMosaic.Lib.Pointwise

@[expose] public section

noncomputable section

open Idealize.ShloMosaic Idealize.ShloMosaic.TcCoe Idealize.SL.Sem
namespace Cert.ConvBwd

open Cert.Kernel6Ideal Cert.Kernel6Ideal.Gen

/-- The signal with three zeros before it: what the convolution runs over. -/
def pad (u : ℕ → EReal) (q : ℕ) : EReal := if q < 3 then 0 else u (q - 3)

/-- The convolution of four taps at a row, with its bias. -/
def pre (u : ℕ → EReal) (w : Fin 4 → EReal) (b : EReal) (s : ℕ) : EReal :=
  b + w 3 * pad u (s + 3) + w 2 * pad u (s + 2) + w 1 * pad u (s + 1) + w 0 * pad u s

/-- The derivative of the gated activation. -/
def slope (p : EReal) : EReal := Ideal.logistic p * (1 + p * (1 - Ideal.logistic p))

/-- The gradient of the convolution's result at a row; no row comes after the 4096th. -/
def grad (u dx : ℕ → EReal) (w : Fin 4 → EReal) (b : EReal) (s : ℕ) : EReal :=
  if s < 4096 then dx s * slope (pre u w b s) else 0

theorem is_zero : ∀ n : Fin 8, Scalar.cmpi CmpIPredicate.eq (BitVec.ofNat 32 n.val) 0#32 = if n.val = 0 then 1#1 else 0#1 := by decide

theorem is_seven : ∀ n : Fin 8, Scalar.cmpi CmpIPredicate.eq (BitVec.ofNat 32 n.val) 7#32 = if n.val = 7 then 1#1 else 0#1 := by decide

theorem below : ∀ r k : Fin 8, IntOp.cmpi CmpIPredicate.slt (BitVec.ofNat 32 r.val) (BitVec.ofNat 32 k.val) = if r.val < k.val then 1#1 else 0#1 := by decide

theorem above : ∀ r k : Fin 8, IntOp.cmpi CmpIPredicate.sge (BitVec.ofNat 32 r.val) (BitVec.ofNat 32 k.val) = if k.val ≤ r.val then 1#1 else 0#1 := by decide

/-- A choice on a decided condition. -/
theorem choice {α : Type} (p : Prop) [Decidable p] (a b : α) : Scalar.select (if p then 1#1 else 0#1) a b = if p then a else b := by
  split <;> rfl

/-- Row `r` of a block moved down by `k` rows, the rows that enter taken from the eight rows before the block, is the
    padded signal `k` rows back; the rows before the first block are zero. -/
theorem back (n : Fin 8) (k : Fin 8) (hk : k.val ≤ 3) (u : ℕ → EReal) (f : Fin 512 → EReal) (g : Fin 8 → EReal)
    (hf : ∀ r, f r = u (512 * n.val + r.val)) (hg : n.val ≠ 0 → ∀ r, g r = u (512 * n.val + r.val - 8)) (r : Fin 512)
    (a : ℕ) (ha : a % 8 = (r.val + 8 - k.val) % 8) (b : ℕ) (hb : b % 512 = (r.val + 512 - k.val) % 512) (b' : ℕ) (hb' : 8 ≤ r.val → b' % 512 = (r.val + 512 - k.val) % 512) :
    (if h : r.val < 8 then
      Scalar.select (IntOp.cmpi CmpIPredicate.slt (BitVec.ofNat 32 r.val) (BitVec.ofNat 32 k.val))
        (Scalar.select (Scalar.cmpi CmpIPredicate.eq (BitVec.ofNat 32 n.val) 0#32) 0 (g ⟨a % 8, Nat.mod_lt _ (by decide)⟩))
        (f ⟨b % 512, Nat.mod_lt _ (by decide)⟩)
    else f ⟨b' % 512, Nat.mod_lt _ (by decide)⟩) = pad u (512 * n.val + r.val + 3 - k.val) := by
  have hr := r.isLt
  by_cases h : r.val < 8
  · rw [dif_pos h, below ⟨r.val, h⟩ k, is_zero, choice, choice]
    by_cases h1 : r.val < k.val
    · rw [if_pos h1]
      by_cases h2 : n.val = 0
      · rw [if_pos h2, pad, if_pos (by omega)]
      · rw [if_neg h2, hg h2, pad, if_neg (by omega)]
        exact congrArg u (by simp only [ha]; omega)
    · rw [if_neg h1, hf, pad, if_neg (by omega)]
      exact congrArg u (by simp only [hb]; omega)
  · rw [dif_neg h, hf, pad, if_neg (by omega)]
    exact congrArg u (by have h' := hb' (by omega); simp only [h']; omega)

/-- Row `r` of a block moved up by `j` rows, the rows that enter taken from the eight rows after it. -/
theorem ahead (n : ℕ) (k : Fin 8) (hk : 5 ≤ k.val) (d : ℕ → EReal) (f : Fin 512 → EReal) (g : Fin 8 → EReal)
    (hf : ∀ r, f r = d (512 * n + r.val)) (hg : ∀ r, g r = d (512 * n + 512 + r.val)) (r : Fin 512)
    (a : ℕ) (ha : 504 ≤ r.val → a % 8 = (r.val + 8 - k.val) % 8) (b : ℕ) (hb : b % 512 = (r.val + 8 - k.val) % 512) (b' : ℕ) (hb' : 504 ≤ r.val → b' % 512 = (r.val + 8 - k.val) % 512) :
    (if h : r.val < 504 then f ⟨b % 512, Nat.mod_lt _ (by decide)⟩
    else Scalar.select (IntOp.cmpi CmpIPredicate.sge (BitVec.ofNat 32 (r.val - 504)) (BitVec.ofNat 32 k.val))
        (g ⟨a % 8, Nat.mod_lt _ (by decide)⟩) (f ⟨b' % 512, Nat.mod_lt _ (by decide)⟩)) = d (512 * n + r.val + 8 - k.val) := by
  have hr := r.isLt
  have hk' := k.isLt
  by_cases h : r.val < 504
  · rw [dif_pos h, hf]
    exact congrArg d (by simp only [hb]; omega)
  · rw [dif_neg h, above ⟨r.val - 504, by omega⟩ k, choice]
    by_cases h1 : k.val ≤ r.val - 504
    · rw [if_pos h1, hg]
      exact congrArg d (by have h' := ha (by omega); simp only [h']; omega)
    · rw [if_neg h1, hf]
      exact congrArg d (by have h' := hb' (by omega); simp only [h']; omega)

section Block

variable (i : grid0.Coords) (u dx : ℕ → EReal) (w : Fin 4 → EReal) (b : EReal) (l : Fin 512)
  (v0 : Vec Ideal S512x512 .f32) (v1 : Vec Ideal S8x512 .f32) (wb w0 w1 w2 w3 : Vec Ideal S1x512 .f32) (x : Vec Ideal S512x512 .f32)

variable (h0 : ∀ r : Fin 512, v0 (ix2 r l) = u (512 * (i 1).val + r.val))
  (h1 : (i 1).val ≠ 0 → ∀ r : Fin 8, v1 (ix2 r l) = u (512 * (i 1).val + r.val - 8))
include h0 h1

theorem back1 (r : Fin 512) : k0_pay4 i v0 v1 (ix2 r l) = pad u (512 * (i 1).val + r.val + 2) := by
  pointwise [k0_pay4, k0_pay3]
  exact back (i 1) 1 (by decide) u (fun r => v0 (ix2 r l)) (fun r => v1 (ix2 r l)) h0 h1 r _ rfl _ rfl _ (by intro h; rw [Nat.add_sub_cancel' h]; rfl)

theorem back2 (r : Fin 512) : k0_pay5 i v0 v1 (ix2 r l) = pad u (512 * (i 1).val + r.val + 1) := by
  pointwise [k0_pay5, k0_pay3]
  exact back (i 1) 2 (by decide) u (fun r => v0 (ix2 r l)) (fun r => v1 (ix2 r l)) h0 h1 r _ rfl _ rfl _ (by intro h; rw [Nat.add_sub_cancel' h]; rfl)

theorem back3 (r : Fin 512) : k0_pay7 v0 (k0_pay3 i v1) 3#32 (ix2 r l) = pad u (512 * (i 1).val + r.val) := by
  pointwise [k0_pay7, k0_pay3]
  exact back (i 1) 3 (by decide) u (fun r => v0 (ix2 r l)) (fun r => v1 (ix2 r l)) h0 h1 r _ rfl _ rfl _ (by intro h; rw [Nat.add_sub_cancel' h]; rfl)

variable (hb : wb (ix2 0 l) = b) (hw0 : w0 (ix2 0 l) = w 0) (hw1 : w1 (ix2 0 l) = w 1) (hw2 : w2 (ix2 0 l) = w 2) (hw3 : w3 (ix2 0 l) = w 3)
include hb hw0 hw1 hw2 hw3

/-- The gradient of the convolution's result, a block's rows. -/
theorem grad_rows (hx : ∀ r : Fin 512, x (ix2 r l) = dx (512 * (i 1).val + r.val)) (r : Fin 512) :
    k0_pay8 v0 (k0_pay3 i v1) (k0_pay6 i v0 v1 wb w3 w2 w1) 3#32 w0 x (ix2 r l) = grad u dx w b (512 * (i 1).val + r.val) := by
  have hi : (i 1).val < 8 := (i 1).isLt
  have hr := r.isLt
  have p0 : v0 (ix2 r l) = pad u (512 * (i 1).val + r.val + 3) := by
    rw [h0, pad, if_neg (by omega)]; rfl
  rw [grad, if_pos (by omega), pre, ← hb, ← hw0, ← hw1, ← hw2, ← hw3, ← p0, ← back1 i u l v0 v1 h0 h1, ← back2 i u l v0 v1 h0 h1,
    ← back3 i u l v0 v1 h0 h1, ← hx, slope, Ideal.logistic, ← zero_sub]
  pointwise [k0_pay8, k0_pay6]

end Block

/-- Row `r` of the eight rows after a block moved down by `k` rows, the rows that enter taken from the block's last eight. -/
theorem after_back (n : ℕ) (k : Fin 8) (hk : k.val ≤ 3) (u : ℕ → EReal) (f g : Fin 8 → EReal)
    (hf : ∀ r, f r = u (512 * n + 504 + r.val)) (hg : ∀ r, g r = u (512 * n + 512 + r.val)) (r : Fin 8)
    (a : ℕ) (ha : a % 8 = (r.val + 8 - k.val) % 8) (b : ℕ) (hb : b % 8 = (r.val + 8 - k.val) % 8) :
    Scalar.select (IntOp.cmpi CmpIPredicate.slt (BitVec.ofNat 32 r.val) (BitVec.ofNat 32 k.val))
        (f ⟨a % 8, Nat.mod_lt _ (by decide)⟩) (g ⟨b % 8, Nat.mod_lt _ (by decide)⟩) = pad u (512 * n + 512 + r.val + 3 - k.val) := by
  have hr := r.isLt
  rw [below r k, choice]
  by_cases h1 : r.val < k.val
  · rw [if_pos h1, hf, pad, if_neg (by omega)]
    exact congrArg u (by simp only [ha]; omega)
  · rw [if_neg h1, hg, pad, if_neg (by omega)]
    exact congrArg u (by simp only [hb]; omega)

section After

variable (i : grid0.Coords) (u dx : ℕ → EReal) (w : Fin 4 → EReal) (b : EReal) (l : Fin 512)
  (v0 : Vec Ideal S512x512 .f32) (v2 : Vec Ideal S8x512 .f32) (wb w0 w1 w2 w3 : Vec Ideal S1x512 .f32) (xn : Vec Ideal S8x512 .f32)

variable (h0 : ∀ r : Fin 512, v0 (ix2 r l) = u (512 * (i 1).val + r.val))
  (h2 : (i 1).val ≠ 7 → ∀ r : Fin 8, v2 (ix2 r l) = u (512 * (i 1).val + 512 + r.val))
  (hb : wb (ix2 0 l) = b) (hw0 : w0 (ix2 0 l) = w 0) (hw1 : w1 (ix2 0 l) = w 1) (hw2 : w2 (ix2 0 l) = w 2) (hw3 : w3 (ix2 0 l) = w 3)
include h0 h2 hb hw0 hw1 hw2 hw3

/-- The convolution at the eight rows after a block that is not the last. -/
theorem pre_after (hi : (i 1).val ≠ 7) (r : Fin 8) :
    k0_pay12 v2 (k0_pay9 v0) (k0_pay10 v2 wb w3) (k0_pay11 v2) (iota Kind.tc S8x512 32 [0] iota_S8x512_d0_w32) w2 w1 w0 (ix2 r l)
      = pre u w b (512 * (i 1).val + 512 + r.val) := by
  have hf : ∀ q : Fin 8, v0 (ix2 (⟨504 + q.val, by omega⟩ : Fin 512) l) = u (512 * (i 1).val + 504 + q.val) := fun q =>
    (h0 _).trans (congrArg u (Nat.add_assoc _ _ _).symm)
  have p3 : v2 (ix2 r l) = pad u (512 * (i 1).val + 512 + r.val + 3) := by
    rw [h2 hi, pad, if_neg (by omega)]; rfl
  rw [pre, ← hb, ← hw0, ← hw1, ← hw2, ← hw3, ← p3]
  pointwise [k0_pay12, k0_pay9, k0_pay10, k0_pay11]
  refine congrArg₂ (· + ·) (congrArg₂ (· + ·) (congrArg₂ (· + ·) rfl (congrArg₂ (· * ·) rfl ?_)) (congrArg₂ (· * ·) rfl ?_)) (congrArg₂ (· * ·) rfl ?_)
  · exact after_back _ 1 (by decide) u (fun q => v0 (ix2 (⟨504 + q.val, by omega⟩ : Fin 512) l)) (fun q => v2 (ix2 q l)) hf (h2 hi) r _ rfl _ rfl
  · exact after_back _ 2 (by decide) u (fun q => v0 (ix2 (⟨504 + q.val, by omega⟩ : Fin 512) l)) (fun q => v2 (ix2 q l)) hf (h2 hi) r _ rfl _ rfl
  · exact after_back _ 3 (by decide) u (fun q => v0 (ix2 (⟨504 + q.val, by omega⟩ : Fin 512) l)) (fun q => v2 (ix2 q l)) hf (h2 hi) r _ rfl _ rfl

/-- The gradient of the convolution's result at the eight rows after a block; after the last block it is zero. -/
theorem grad_after (hx : (i 1).val ≠ 7 → ∀ r : Fin 8, xn (ix2 r l) = dx (512 * (i 1).val + 512 + r.val)) (r : Fin 8) :
    k0_pay15 (k0_pay12 v2 (k0_pay9 v0) (k0_pay10 v2 wb w3) (k0_pay11 v2) (iota Kind.tc S8x512 32 [0] iota_S8x512_d0_w32) w2 w1 w0)
      (Scalar.cmpi CmpIPredicate.eq (BitVec.ofNat 32 (i 1).val) 7#32) xn
      (k0_pay13 v2 (k0_pay9 v0) (k0_pay10 v2 wb w3) (k0_pay11 v2) (iota Kind.tc S8x512 32 [0] iota_S8x512_d0_w32) w2 w1 w0)
      (k0_pay14 v2 (k0_pay9 v0) (k0_pay10 v2 wb w3) (k0_pay11 v2) (iota Kind.tc S8x512 32 [0] iota_S8x512_d0_w32) w2 w1 w0) (ix2 r l)
      = grad u dx w b (512 * (i 1).val + 512 + r.val) := by
  have hi : (i 1).val < 8 := (i 1).isLt
  have hr := r.isLt
  have hc := is_seven (i 1)
  unfold k0_pay14 k0_pay13
  have hp := pre_after i u w b l v0 v2 wb w0 w1 w2 w3 h0 h2 hb hw0 hw1 hw2 hw3
  generalize k0_pay12 v2 (k0_pay9 v0) (k0_pay10 v2 wb w3) (k0_pay11 v2) (iota Kind.tc S8x512 32 [0] iota_S8x512_d0_w32) w2 w1 w0 = p at hp ⊢
  pointwise [k0_pay15]
  refine (congrArg (fun z => Scalar.select z _ _) hc).trans ((choice ..).trans ?_)
  by_cases h : (i 1).val = 7
  · rw [if_pos h, grad, if_neg (by omega)]
  · rw [if_neg h, grad, if_pos (by omega), slope, ← hp h, ← hx h, Ideal.logistic, ← zero_sub]

end After

/-- The gradient of the signal at a row: every row it was used in. -/
def dsig (d : ℕ → EReal) (w : Fin 4 → EReal) (s : ℕ) : EReal := w 3 * d s + w 2 * d (s + 1) + w 1 * d (s + 2) + w 0 * d (s + 3)

/-- The block the kernel writes for the signal's gradient, from the gradient of the convolution's result. -/
theorem dsig_rows (n : ℕ) (d : ℕ → EReal) (w : Fin 4 → EReal) (l : Fin 512) (g : FVec Ideal S512x512 .f32)
    (v104 v113 v115 : FVec Ideal S8x512 .f32) (z : BitVec 1) (xn : Vec Ideal S8x512 .f32) (w0 w1 w2 w3 : Vec Ideal S1x512 .f32)
    (hw0 : w0 (ix2 0 l) = w 0) (hw1 : w1 (ix2 0 l) = w 1) (hw2 : w2 (ix2 0 l) = w 2) (hw3 : w3 (ix2 0 l) = w 3)
    (hg : ∀ r : Fin 512, g (ix2 r l) = d (512 * n + r.val))
    (ha : ∀ r : Fin 8, k0_pay15 v104 z xn v113 v115 (ix2 r l) = d (512 * n + 512 + r.val)) (r : Fin 512) :
    k0_pay19 (k0_pay15 v104 z xn v113 v115) (k0_pay16 g v104 z xn v113 v115 w3 w2 w1) w0 (k0_pay17 g) k0_pay18 5#32 (ix2 r l)
      = dsig d w (512 * n + r.val) := by
  unfold k0_pay16
  generalize k0_pay15 v104 z xn v113 v115 = e at ha ⊢
  rw [dsig, ← hw0, ← hw1, ← hw2, ← hw3, ← hg]
  pointwise [k0_pay19, k0_pay17, k0_pay18]
  refine congrArg₂ (· + ·) (congrArg₂ (· + ·) (congrArg₂ (· + ·) rfl (congrArg₂ (· * ·) rfl ?_)) (congrArg₂ (· * ·) rfl ?_)) (congrArg₂ (· * ·) rfl ?_)
  · exact ahead n 7 (by decide) d (fun q => g (ix2 q l)) (fun q => e (ix2 q l)) hg ha r _ (fun h => by omega) _ (by omega) _ (fun h => by omega)
  · exact ahead n 6 (by decide) d (fun q => g (ix2 q l)) (fun q => e (ix2 q l)) hg ha r _ (fun h => by omega) _ (by omega) _ (fun h => by omega)
  · exact ahead n 5 (by decide) d (fun q => g (ix2 q l)) (fun q => e (ix2 q l)) hg ha r _ (fun h => by omega) _ (by omega) _ (fun h => by omega)

end Cert.ConvBwd

end
-- ==== Proof.ConvRef.lean ====
/-
  The reference's gradient of the convolution, read channel by channel: the gradient of the pre-activation, its sums with the
  shifted signal and over the rows, and the signal's gradient put back into the columns it came from.
-/
module

public import proofs.«01_k».proof.Defs
public import proofs.«01_k».proof.Proof.Gen.Kernel6Ideal.Value
public import proofs.«01_k».proof.Proof.Gen.Reference6Ideal.Read
public import Idealize.ShloMosaic.Lib.Pointwise
public import proofs.«01_k».proof.Proof.ConvRows
public import proofs.«01_k».proof.Proof.LayerGrad

@[expose] public section

noncomputable section

open Idealize.ShloMosaic Idealize.ShloMosaic.TcCoe Idealize.SL.Sem
namespace Cert.ConvBwd

open Cert.Kernel6Ideal Cert.Kernel6Ideal.Gen Cert.LayerGrad

/-- Channel `j` of the convolution's input in the projection. -/
def chan (j : Fin 1536) : Fin 5760 := ⟨if j.val < 1024 then 1024 + j.val else 4096 + j.val, by have := j.isLt; split <;> omega⟩

/-- A channel of the projection as a signal. -/
def signal (x : S4096x5760.Idx → EReal) (j : Fin 1536) (s : ℕ) : EReal := if h : s < 4096 then x (ix2 (⟨s, h⟩ : Fin 4096) (chan j)) else 0

/-- A channel of the result's gradient. -/
def lane (x : S4096x1536.Idx → EReal) (j : Fin 1536) (s : ℕ) : EReal := if h : s < 4096 then x (ix2 (⟨s, h⟩ : Fin 4096) j) else 0

/-- A channel's four taps. -/
def taps (x : S4x1536.Idx → EReal) (j : Fin 1536) (k : Fin 4) : EReal := x (ix2 k j)

/-- The gradient of the convolution's result, from the four arguments. -/
def dres (x0 : S4096x5760.Idx → EReal) (x1 : S4x1536.Idx → EReal) (x2 : S1x1536.Idx → EReal) (x3 : S4096x1536.Idx → EReal) (j : Fin 1536) : ℕ → EReal :=
  grad (signal x0 j) (lane x3 j) (taps x1 j) (x2 (ix2 0 j))

variable (x0 : Vec Ideal S4096x5760 .f32) (x1 : Vec Ideal S4x1536 .f32) (x2 : Vec Ideal S1x1536 .f32) (x3 : Vec Ideal S4096x1536 .f32) (x4 : Vec Ideal S4096x5760 .bf16)

open Cert.Reference6Ideal.Read

/-- The reference's padded input is the padded signal. -/
theorem ref_pad (q : Fin 4099) (j : Fin 1536) : val_main_v4 (F := Ideal) x0 (ix2 q j) = pad (signal x0 j) q.val := by
  pointwise [val_main_v4, val_main_v3, val_main_v2, val_main_v1, val_main_v0, val_main_cst]
  have hq := q.isLt
  by_cases h : q.val < 3
  · rw [dif_pos h, pad, if_pos h]
  · rw [dif_neg h, pad, if_neg h, signal, dif_pos (show q.val - 3 < 4096 by omega), chan]
    by_cases hj : j.val < 1024
    · simp only [dif_pos hj, if_pos hj]
    · simp only [dif_neg hj, if_neg hj]
      exact congrArg (fun z => x0 (ix2 _ z)) (Fin.ext (by show 5120 + (j.val - 1024) = 4096 + j.val; omega))

/-- The reference's convolution. -/
theorem ref_pre (R : Fin 4096) (j : Fin 1536) : val_main_v28 (F := Ideal) x0 x1 x2 (ix2 R j) = pre (signal x0 j) (taps x1 j) (x2 (ix2 0 j)) R.val := by
  have hR := R.isLt
  have h0 := ref_pad x0 ⟨R.val, by omega⟩ j
  have h1 := ref_pad x0 ⟨1 + R.val, by omega⟩ j
  have h2 := ref_pad x0 ⟨2 + R.val, by omega⟩ j
  have h3 := ref_pad x0 ⟨3 + R.val, by omega⟩ j
  rw [pre, taps, taps, taps, taps, Nat.add_comm _ 3, Nat.add_comm _ 2, Nat.add_comm _ 1, ← h0, ← h1, ← h2, ← h3]
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v7, val_main_v6, val_main_cst_1]
  abel

/-- The two ways of writing the derivative of the gated activation times a finite number. -/
theorem slope_eq {d : EReal} (hd : Finite d) (p : EReal) :
    d * Ideal.logistic p + p * d * (Ideal.logistic p * (1 - Ideal.logistic p)) = d * slope p := by
  obtain ⟨d, rfl⟩ := hd
  have h1 : (1 : EReal) - 1 = 0 := by rw [← EReal.coe_one, ← EReal.coe_sub, sub_self, EReal.coe_zero]
  rw [slope]
  induction p using EReal.rec with
  | bot => simp
  | top => simp [h1]
  | coe p =>
    rw [Ideal.logistic_coe]
    generalize (1 + Real.exp (-p))⁻¹ = s
    norm_cast
    ring

/-- The reference's gradient of the convolution's result. -/
theorem ref_grad (h : ∀ i, Finite (x3 i)) (R : Fin 4096) (j : Fin 1536) : val_main_v30 (F := Ideal) x0 x1 x2 x3 (ix2 R j) = dres x0 x1 x2 x3 j R.val := by
  rw [dres, grad, if_pos R.isLt, ← ref_pre x0 x1 x2 R j, lane, dif_pos R.isLt]
  refine Eq.trans ?_ (slope_eq (h (ix2 R j)) _)
  rw [val_main_v30_apply, Ideal.logistic]
  pointwise [val_main_call1_v2, val_main_call1_v1, val_main_call1_v0, val_main_v29_1, val_main_v29_2, val_main_call0_v7, val_main_call0_v6, val_main_call0_v4,
    val_main_call0_v3, val_main_call0_v2, val_main_call0_v1, val_main_call0_v0, val_main_call0_cst, val_main_call0_cst_0, val_main_call0_cst_1]

/-- The gradient of the bias. -/
theorem ref_db (h : ∀ i, Finite (x3 i)) (j : Fin 1536) : val_main_v32 (F := Ideal) x0 x1 x2 x3 (ix2 0 j) = ∑ R : Fin 4096, dres x0 x1 x2 x3 j R.val := by
  pointwise [val_main_v32, val_main_v31, val_main_cst_2]
  exact Finset.sum_congr rfl fun R _ => ref_grad x0 x1 x2 x3 h R j

theorem dres_past (j : Fin 1536) (s : ℕ) (hs : ¬s < 4096) : dres x0 x1 x2 x3 j s = 0 := if_neg hs

/-- One tap's share of the signal's gradient, zero past the last row. -/
theorem ref_share (h : ∀ i, Finite (x3 i)) (j : Fin 1536) (a : EReal) (s n : ℕ) (e : s = n) :
    (if hs : s < 4096 then a * val_main_v30 (F := Ideal) x0 x1 x2 x3 (ix2 (⟨s, hs⟩ : Fin 4096) j) else 0) = a * dres x0 x1 x2 x3 j n := by
  subst e
  split
  · rw [ref_grad x0 x1 x2 x3 h]
  · rw [dres_past x0 x1 x2 x3 j s ‹_›, mul_zero]

/-- The gradient of the padded input, past its three zeros. -/
theorem ref_dsig (h : ∀ i, Finite (x3 i)) (R : Fin 4096) (j : Fin 1536) (p : 3 + R.val < 4099) :
    val_main_v64 (F := Ideal) x0 x1 x2 x3 (ix2 (⟨3 + R.val, p⟩ : Fin 4099) j) = dsig (dres x0 x1 x2 x3 j) (taps x1 j) R.val := by
  have hR := R.isLt
  rw [dsig, ← ref_share x0 x1 x2 x3 h j _ (3 + R.val - 3) R.val (by omega), ← ref_share x0 x1 x2 x3 h j _ (3 + R.val - 2) (R.val + 1) (by omega),
    ← ref_share x0 x1 x2 x3 h j _ (3 + R.val - 1) (R.val + 2) (by omega), ← ref_share x0 x1 x2 x3 h j _ (3 + R.val) (R.val + 3) (by omega),
    taps, taps, taps, taps]
  pointwise [val_main_v64, val_main_v63, val_main_v59, val_main_v58, val_main_v55, val_main_v54, val_main_v50, val_main_v49, val_main_v46, val_main_v45,
    val_main_v41, val_main_v40, val_main_v38, val_main_v34, val_main_v33, val_main_v6, val_main_v12, val_main_v17, val_main_v22,
    val_main_cst_4, val_main_cst_7, val_main_cst_10, val_main_cst_13]
  refine congrArg₂ (· + ·) (congrArg₂ (· + ·) (congrArg₂ (· + ·) rfl ?_) ?_) rfl
  · by_cases hs : 3 + R.val - 2 < 4096
    · rw [dif_pos hs, dif_pos ⟨by omega, hs⟩]
    · rw [dif_neg hs, dif_neg fun h => hs h.2]
  · by_cases hs : 3 + R.val - 1 < 4096
    · rw [dif_pos hs, dif_pos ⟨by omega, hs⟩]
    · rw [dif_neg hs, dif_neg fun h => hs h.2]

/-- The gradient of a tap. -/
theorem ref_dw (h : ∀ i, Finite (x3 i)) (k : Fin 4) (j : Fin 1536) :
    val_main_v66 (F := Ideal) x0 x1 x2 x3 (ix2 k j) = ∑ R : Fin 4096, dres x0 x1 x2 x3 j R.val * pad (signal x0 j) (R.val + k.val) := by
  have e : ∀ (R : Fin 4096), val_main_v30 (F := Ideal) x0 x1 x2 x3 (ix2 R j) * val_main_v4 (F := Ideal) x0 (ix2 (⟨k.val + R.val, by omega⟩ : Fin 4099) j)
      = dres x0 x1 x2 x3 j R.val * pad (signal x0 j) (R.val + k.val) := fun R => by
    rw [ref_grad x0 x1 x2 x3 h, ref_pad]
    exact congrArg (fun n => _ * pad _ n) (Nat.add_comm _ _)
  refine Eq.trans ?_ (Finset.sum_congr rfl fun R _ => e R)
  pointwise [val_main_v66, val_main_v65, val_main_v62, val_main_v61, val_main_v60, val_main_v57, val_main_v56, val_main_v53, val_main_v52, val_main_v51,
    val_main_v48, val_main_v47, val_main_v44, val_main_v43, val_main_v42, val_main_v39, val_main_v37, val_main_v36, val_main_v35,
    val_main_v7, val_main_v13, val_main_v18, val_main_v23, val_main_cst_3, val_main_cst_5, val_main_cst_6, val_main_cst_8, val_main_cst_9,
    val_main_cst_11, val_main_cst_12, val_main_cst_14]
  match k with
  | 0 =>
    rw [dif_neg (by decide), dif_neg (by decide), dif_neg (by decide), dif_pos (by decide), zero_add, zero_add, zero_add]
    exact Finset.sum_congr rfl fun R _ => congrArg (fun z => _ * val_main_v4 (F := Ideal) x0 (ix2 z j)) (Fin.ext (Nat.zero_add _).symm)
  | 1 => rw [dif_neg (by decide), dif_neg (by decide), dif_pos (by decide), dif_neg (by decide), zero_add, zero_add, add_zero]; rfl
  | 2 => rw [dif_neg (by decide), dif_pos (by decide), dif_neg (by decide), dif_neg (by decide), zero_add, add_zero, add_zero]; rfl
  | 3 => rw [dif_pos (by decide), dif_neg (by decide), dif_neg (by decide), dif_neg (by decide), add_zero, add_zero, add_zero]; rfl

/-- The columns of the packed gradient that this kernel writes. -/
def mine (C : ℕ) : Prop := (1024 ≤ C ∧ C < 2048) ∨ (5120 ≤ C ∧ C < 5632)

instance (C : ℕ) : Decidable (mine C) := inferInstanceAs (Decidable (_ ∨ _))

/-- The channel of a column. -/
def back_chan (C : ℕ) : Fin 1536 := ⟨if C < 2048 then (C - 1024) % 1536 else (C - 4096) % 1536, by split <;> omega⟩

/-- The reference's packed gradient, column range by column range. -/
theorem ref_parts (R : Fin 4096) (C : Fin 5760) : val_main_v75 (F := Ideal) x0 x1 x2 x3 x4 (ix2 R C)
    = if h1 : C.val < 1024 then x4 (ix2 R C)
      else if h2 : C.val - 1024 < 1024 then
        val_main_v64 (F := Ideal) x0 x1 x2 x3 (ix2 (⟨3 + R.val, by omega⟩ : Fin 4099) (⟨C.val - 1024, by omega⟩ : Fin 1536))
      else if h3 : C.val - 1024 - 1024 < 3072 then x4 (ix2 R (⟨2048 + (C.val - 1024 - 1024), by omega⟩ : Fin 5760))
      else if h4 : C.val - 1024 - 1024 - 3072 < 512 then
        val_main_v64 (F := Ideal) x0 x1 x2 x3 (ix2 (⟨3 + R.val, by omega⟩ : Fin 4099) (⟨1024 + (C.val - 1024 - 1024 - 3072), by omega⟩ : Fin 1536))
      else x4 (ix2 R (⟨5632 + (C.val - 1024 - 1024 - 3072 - 512), by have := C.isLt; omega⟩ : Fin 5760)) := by
  pointwise [val_main_v75, val_main_v70, val_main_v71, val_main_v72, val_main_v73, val_main_v74, val_main_v69, val_main_v68]

/-- The packed gradient: this kernel's columns, and the rest as it was. -/
theorem ref_out (h : ∀ i, Finite (x3 i)) (R : Fin 4096) (C : Fin 5760) : val_main_v75 (F := Ideal) x0 x1 x2 x3 x4 (ix2 R C)
    = if mine C.val then dsig (dres x0 x1 x2 x3 (back_chan C.val)) (taps x1 (back_chan C.val)) R.val else x4 (ix2 R C) := by
  have hC := C.isLt
  rw [ref_parts]
  by_cases c1 : C.val < 1024
  · rw [dif_pos c1, if_neg (show ¬mine C.val by unfold mine; omega)]
  rw [dif_neg c1]
  by_cases c2 : C.val - 1024 < 1024
  · rw [dif_pos c2, if_pos (show mine C.val by unfold mine; omega), ref_dsig x0 x1 x2 x3 h,
      show back_chan C.val = ⟨C.val - 1024, by omega⟩ from Fin.ext (by unfold back_chan; simp only []; rw [if_pos (show C.val < 2048 by omega)]; omega)]
  rw [dif_neg c2]
  by_cases c3 : C.val - 1024 - 1024 < 3072
  · rw [dif_pos c3, if_neg (show ¬mine C.val by unfold mine; omega)]
    exact congrArg (fun z => x4 (ix2 R z)) (Fin.ext (by show 2048 + (C.val - 1024 - 1024) = C.val; omega))
  rw [dif_neg c3]
  by_cases c4 : C.val - 1024 - 1024 - 3072 < 512
  · rw [dif_pos c4, if_pos (show mine C.val by unfold mine; omega), ref_dsig x0 x1 x2 x3 h,
      show back_chan C.val = ⟨1024 + (C.val - 1024 - 1024 - 3072), by omega⟩ from
        Fin.ext (by unfold back_chan; simp only []; rw [if_neg (show ¬C.val < 2048 by omega)]; omega)]
  · rw [dif_neg c4, if_neg (show ¬mine C.val by unfold mine; omega)]
    exact congrArg (fun z => x4 (ix2 R z)) (Fin.ext (by show 5632 + (C.val - 1024 - 1024 - 3072 - 512) = C.val; omega))

end Cert.ConvBwd

end
-- ==== Proof.ConvBwd.lean ====
/-
  The backward of the state-space branch's causal convolution.  One grid point takes 512 rows of 512 channels and reads the eight
  rows before and after them.  The signal's gradient is a block of the packed gradient, whose other columns stay as they were;
  the gradients of the taps and of the bias gather over the eight blocks of rows of a band of channels.
-/
module

public import proofs.«01_k».proof.Defs
public import proofs.«01_k».proof.Proof.Gen.Kernel6Ideal.Value
public import proofs.«01_k».proof.Proof.Gen.Reference6Ideal.Read
public import proofs.«01_k».proof.Proof.GridSum
public import proofs.«01_k».proof.Proof.ConvRef
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.ConvBwd

open Cert.Kernel6Ideal Cert.Kernel6Ideal.Gen Cert.LayerGrad Cert.GridSum

variable (m : (ℓ : Loc nD τ sig) → Buf (Elt Ideal) ℓ)

/-- The channel of a lane in a band of 512 channels. -/
def ch (q : Fin 3) (l : Fin 512) : Fin 1536 := ⟨q.val * 512 + l.val, by omega⟩

/-- The band of channels, and the block of rows, of a grid point. -/
def band (t : Fin cfg0.N) : Fin 3 := ⟨t.val / 8, by have h : t.val < 24 := t.isLt; omega⟩
def blockOf (t : Fin cfg0.N) : Fin 8 := ⟨t.val % 8, Nat.mod_lt _ (by decide)⟩

theorem index (t : Fin cfg0.N) : win0_0.index t = ![t.val % 8, if t.val / 8 < 2 then 2 + t.val / 8 else 10]
    ∧ win0_1.index t = ![t.val % 8 * 64 - 1, if t.val / 8 < 2 then 2 + t.val / 8 else 10]
    ∧ win0_2.index t = ![min (t.val % 8 * 64 + 64) 511, if t.val / 8 < 2 then 2 + t.val / 8 else 10]
    ∧ win0_3.index t = ![0, t.val / 8] ∧ win0_4.index t = ![0, t.val / 8] ∧ win0_5.index t = ![t.val % 8, t.val / 8]
    ∧ win0_6.index t = ![min (t.val % 8 * 64 + 64) 511, t.val / 8]
    ∧ win0_7.index t = ![t.val % 8, if t.val / 8 < 2 then 2 + t.val / 8 else 10]
    ∧ win0_8.index t = ![0, t.val / 8] ∧ win0_9.index t = ![0, t.val / 8] := by
  revert t; decide +kernel

theorem step (t : Fin cfg0.N) : (grid0.coords t 1).val = t.val % 8 := by
  revert t; decide +kernel

/-- The column of the projection that a lane reads. -/
theorem col_eq (q l : ℕ) (hq : q < 3) (hl : l < 512) :
    (if q < 2 then 2 + q else 10) * 512 + l = if q * 512 + l < 1024 then 1024 + (q * 512 + l) else 4096 + (q * 512 + l) := by
  split <;> split <;> omega

variable (c : Dev nD) (t : Fin cfg0.N) (l : Fin 512)

def proj : S4096x5760.Idx → EReal := (m ((c : Thread nD τ).loc main_arg0) : Vec Ideal S4096x5760 .f32)
def conv : S4x1536.Idx → EReal := (m ((c : Thread nD τ).loc main_arg1) : Vec Ideal S4x1536 .f32)
def bias : S1x1536.Idx → EReal := (m ((c : Thread nD τ).loc main_arg2) : Vec Ideal S1x1536 .f32)
def dxc : S4096x1536.Idx → EReal := (m ((c : Thread nD τ).loc main_arg3) : Vec Ideal S4096x1536 .f32)
def packed : S4096x5760.Idx → EReal := (m ((c : Thread nD τ).loc main_arg4) : Vec Ideal S4096x5760 .bf16)

theorem row_3 (k : Fin 4) : (iblk m c 3 t : Vec Ideal S4x512 .f32) (ix2 k l) = taps (conv m c) (ch (band t) l) k := by
  unfold taps conv
  blk_ext [iblk, index t, V_main_arg1, ch, band]

theorem row_4 : (iblk m c 4 t : Vec Ideal S1x512 .f32) (ix2 0 l) = bias m c (ix2 0 (ch (band t) l)) := by
  unfold bias
  blk_ext [iblk, index t, V_main_arg2, ch, band]

theorem row_5 (r : Fin 512) : (iblk m c 5 t : Vec Ideal S512x512 .f32) (ix2 r l) = lane (dxc m c) (ch (band t) l) (512 * (grid0.coords t 1).val + r.val) := by
  have h : t.val < 24 := t.isLt
  rw [step, lane, dif_pos (by omega)]
  unfold dxc
  blk_ext [iblk, index t, V_main_arg3, ch, band]

theorem row_6 (h7 : (grid0.coords t 1).val ≠ 7) (r : Fin 8) : (iblk m c 6 t : Vec Ideal S8x512 .f32) (ix2 r l) = lane (dxc m c) (ch (band t) l) (512 * (grid0.coords t 1).val + 512 + r.val) := by
  have h : t.val < 24 := t.isLt
  rw [step] at *
  rw [lane, dif_pos (by omega)]
  unfold dxc
  blk_ext [iblk, index t, V_main_arg3, ch, band]

theorem row_0 (r : Fin 512) : (X0_0 m c t : Vec Ideal S512x512 .f32) (ix2 r l) = signal (proj m c) (ch (band t) l) (512 * (grid0.coords t 1).val + r.val) := by
  have h : t.val < 24 := t.isLt
  rw [step, signal, dif_pos (by omega)]
  unfold proj
  unfold X0_0 Pipeline.Window.fill
  rw [dif_pos (moved0_0 t _)]
  blk_ext [iblk, index t, V_main_arg0, ch, band, chan]
  exact col_eq _ _ (by omega) l.isLt

theorem row_1 (h0 : (grid0.coords t 1).val ≠ 0) (r : Fin 8) : (X0_1 m c t : Vec Ideal S8x512 .f32) (ix2 r l) = signal (proj m c) (ch (band t) l) (512 * (grid0.coords t 1).val + r.val - 8) := by
  have h : t.val < 24 := t.isLt
  rw [step] at *
  rw [signal, dif_pos (by omega)]
  unfold proj
  unfold X0_1 Pipeline.Window.fill
  rw [dif_pos (moved0_1 t _)]
  blk_ext [iblk, index t, V_main_arg0, ch, band, chan]
  exact col_eq _ _ (by omega) l.isLt

theorem row_2 (h7 : (grid0.coords t 1).val ≠ 7) (r : Fin 8) : (X0_2 m c t : Vec Ideal S8x512 .f32) (ix2 r l) = signal (proj m c) (ch (band t) l) (512 * (grid0.coords t 1).val + 512 + r.val) := by
  have h : t.val < 24 := t.isLt
  rw [step] at *
  rw [signal, dif_pos (by omega)]
  unfold proj
  unfold X0_2 Pipeline.Window.fill
  rw [dif_pos (moved0_2 t _)]
  blk_ext [iblk, index t, V_main_arg0, ch, band, chan]
  exact col_eq _ _ (by omega) l.isLt

/-- The gradient of the convolution's result in channel `j`. -/
def dr (j : Fin 1536) : ℕ → EReal := dres (proj m c) (conv m c) (bias m c) (dxc m c) j

/-- The block of that gradient which a grid point computes. -/
def gblk : FVec Ideal S512x512 .f32 :=
  k0_pay8 (X0_0 m c t) (k0_pay3 (grid0.coords t) (X0_1 m c t))
    (k0_pay6 (grid0.coords t) (X0_0 m c t) (X0_1 m c t) (iblk m c 4 t)
      (View.ld (iblk m c 3 t) (Rect.unit ![3, 0] ![1, 512] inb_S4x512_S1x512_3_0))
      (View.ld (iblk m c 3 t) (Rect.unit ![2, 0] ![1, 512] inb_S4x512_S1x512_2_0))
      (View.ld (iblk m c 3 t) (Rect.unit ![1, 0] ![1, 512] inb_S4x512_S1x512_1_0)))
    3#32 (View.ld (iblk m c 3 t) (Rect.unit ![0, 0] ![1, 512] inb_S4x512_S1x512_0_0)) (iblk m c 5 t)

theorem tap_0 : View.ld (iblk m c 3 t : Vec Ideal S4x512 .f32) (Rect.unit ![0, 0] ![1, 512] inb_S4x512_S1x512_0_0) (ix2 0 l) = taps (conv m c) (ch (band t) l) 0 := by
  rw [← row_3]
  pointwise []

theorem tap_1 : View.ld (iblk m c 3 t : Vec Ideal S4x512 .f32) (Rect.unit ![1, 0] ![1, 512] inb_S4x512_S1x512_1_0) (ix2 0 l) = taps (conv m c) (ch (band t) l) 1 := by
  rw [← row_3]
  pointwise []

theorem tap_2 : View.ld (iblk m c 3 t : Vec Ideal S4x512 .f32) (Rect.unit ![2, 0] ![1, 512] inb_S4x512_S1x512_2_0) (ix2 0 l) = taps (conv m c) (ch (band t) l) 2 := by
  rw [← row_3]
  pointwise []

theorem tap_3 : View.ld (iblk m c 3 t : Vec Ideal S4x512 .f32) (Rect.unit ![3, 0] ![1, 512] inb_S4x512_S1x512_3_0) (ix2 0 l) = taps (conv m c) (ch (band t) l) 3 := by
  rw [← row_3]
  pointwise []

theorem gblk_rows (r : Fin 512) : gblk m c t (ix2 r l) = dr m c (ch (band t) l) (512 * (grid0.coords t 1).val + r.val) :=
  grad_rows (grid0.coords t) _ _ _ _ l _ _ _ _ _ _ _ _ (row_0 m c t l) (row_1 m c t l) (row_4 m c t l)
    (tap_0 m c t l) (tap_1 m c t l) (tap_2 m c t l) (tap_3 m c t l) (row_5 m c t l) r

/-- What a grid point writes of the signal's gradient. -/
theorem out_rows (r : Fin 512) : (outsAt0 m c t.val t.isLt).1 (ix2 r l)
    = dsig (dr m c (ch (band t) l)) (taps (conv m c) (ch (band t) l)) (512 * (grid0.coords t 1).val + r.val) := by
  have ha := grad_after (grid0.coords t) _ _ _ _ l _ _ _ _ _ _ _ (iblk m c 6 t) (row_0 m c t l) (row_2 m c t l) (row_4 m c t l)
    (tap_0 m c t l) (tap_1 m c t l) (tap_2 m c t l) (tap_3 m c t l) (row_6 m c t l)
  by_cases h0 : t.val % 8 = 0
  · rw [outsAt0_A m c t h0]
    frame_out
    exact dsig_rows _ _ _ l _ _ _ _ _ _ _ _ _ _ (tap_0 m c t l) (tap_1 m c t l) (tap_2 m c t l) (tap_3 m c t l) (gblk_rows m c t l) ha r
  · rw [outsAt0_B m c t h0]
    frame_out
    exact dsig_rows _ _ _ l _ _ _ _ _ _ _ _ _ _ (tap_0 m c t l) (tap_1 m c t l) (tap_2 m c t l) (tap_3 m c t l) (gblk_rows m c t l) ha r

/-- A row's share of a tap's gradient, and of the bias's. -/
def tapPart (j : Fin 1536) (k : Fin 4) (R : Fin 4096) : EReal := dr m c j R.val * pad (signal (proj m c) j) (R.val + k.val)
def biasPart (j : Fin 1536) (R : Fin 4096) : EReal := dr m c j R.val

theorem at_row (r : Fin 512) : 512 * (grid0.coords t 1).val + r.val = (row (blockOf t) r).val := by
  rw [step, row, blockOf, Nat.mul_comm]

/-- One tap's gradient gains the block's share. -/
theorem gains_3 (e : Vec Ideal S1x512 .f32) : k0_pay23 (X0_0 m c t) (gblk m c t) e (ix2 0 l)
    = e (ix2 0 l) + ∑ r, tapPart m c (ch (band t) l) 3 (row (blockOf t) r) := by
  have hx : ∀ r : Fin 512, gblk m c t (ix2 r l) * (X0_0 m c t : Vec Ideal S512x512 .f32) (ix2 r l) = tapPart m c (ch (band t) l) 3 (row (blockOf t) r) := fun r => by
    rw [gblk_rows, row_0, tapPart, ← at_row, pad, if_neg (show ¬_ < 3 by show ¬_ + 3 < 3; omega)]
    rfl
  rw [← Finset.sum_congr rfl fun r _ => hx r]
  generalize gblk m c t = g
  pointwise [k0_pay23]

theorem gains_2 (e : Vec Ideal S1x512 .f32) : k0_pay24 (k0_pay4 (grid0.coords t) (X0_0 m c t) (X0_1 m c t)) (gblk m c t) e (ix2 0 l)
    = e (ix2 0 l) + ∑ r, tapPart m c (ch (band t) l) 2 (row (blockOf t) r) := by
  have hx : ∀ r : Fin 512, gblk m c t (ix2 r l) * k0_pay4 (grid0.coords t) (X0_0 m c t) (X0_1 m c t) (ix2 r l) = tapPart m c (ch (band t) l) 2 (row (blockOf t) r) := fun r => by
    rw [gblk_rows, back1 _ _ l _ _ (row_0 m c t l) (row_1 m c t l), tapPart, ← at_row]
    rfl
  rw [← Finset.sum_congr rfl fun r _ => hx r]
  generalize gblk m c t = g
  generalize k0_pay4 (F := Ideal) _ _ _ = a
  pointwise [k0_pay24]

theorem gains_1 (e : Vec Ideal S1x512 .f32) : k0_pay1 (k0_pay5 (grid0.coords t) (X0_0 m c t) (X0_1 m c t)) (gblk m c t) e (ix2 0 l)
    = e (ix2 0 l) + ∑ r, tapPart m c (ch (band t) l) 1 (row (blockOf t) r) := by
  have hx : ∀ r : Fin 512, gblk m c t (ix2 r l) * k0_pay5 (grid0.coords t) (X0_0 m c t) (X0_1 m c t) (ix2 r l) = tapPart m c (ch (band t) l) 1 (row (blockOf t) r) := fun r => by
    rw [gblk_rows, back2 _ _ l _ _ (row_0 m c t l) (row_1 m c t l), tapPart, ← at_row]
    rfl
  rw [← Finset.sum_congr rfl fun r _ => hx r]
  generalize gblk m c t = g
  generalize k0_pay5 (F := Ideal) _ _ _ = a
  pointwise [k0_pay1]

theorem gains_0 (e : Vec Ideal S1x512 .f32) : k0_pay2 (k0_pay7 (X0_0 m c t) (k0_pay3 (grid0.coords t) (X0_1 m c t)) 3#32) (gblk m c t) e (ix2 0 l)
    = e (ix2 0 l) + ∑ r, tapPart m c (ch (band t) l) 0 (row (blockOf t) r) := by
  have hx : ∀ r : Fin 512, gblk m c t (ix2 r l) * k0_pay7 (X0_0 m c t) (k0_pay3 (grid0.coords t) (X0_1 m c t)) 3#32 (ix2 r l)
      = tapPart m c (ch (band t) l) 0 (row (blockOf t) r) := fun r => by
    rw [gblk_rows, back3 _ _ l _ _ (row_0 m c t l) (row_1 m c t l), tapPart, ← at_row]
    rfl
  rw [← Finset.sum_congr rfl fun r _ => hx r]
  generalize gblk m c t = g
  generalize k0_pay7 (F := Ideal) _ _ _ = a
  pointwise [k0_pay2]

theorem gains_bias (e : Vec Ideal S1x512 .f32) : k0_pay22 (gblk m c t) e (ix2 0 l) = e (ix2 0 l) + ∑ r, biasPart m c (ch (band t) l) (row (blockOf t) r) := by
  have hx : ∀ r : Fin 512, gblk m c t (ix2 r l) = biasPart m c (ch (band t) l) (row (blockOf t) r) := fun r => by
    rw [gblk_rows, biasPart, ← at_row]
  rw [← Finset.sum_congr rfl fun r _ => hx r]
  generalize gblk m c t = g
  pointwise [k0_pay22]

theorem bias_start (h0 : t.val % 8 = 0) : (outsAt0 m c t.val t.isLt).2.2 (ix2 0 l) = ∑ r, biasPart m c (ch (band t) l) (row (blockOf t) r) := by
  rw [outsAt0_A m c t h0]
  frame_out
  refine (gains_bias m c t l _).trans ?_
  pointwise [k0_pay21]

theorem bias_step (h0 : ¬t.val % 8 = 0) : (outsAt0 m c t.val t.isLt).2.2 (ix2 0 l)
    = (outsAt0 m c (t.val - 1) (Nat.lt_of_le_of_lt (Nat.sub_le _ _) t.isLt)).2.2 (ix2 0 l) + ∑ r, biasPart m c (ch (band t) l) (row (blockOf t) r) := by
  rw [outsAt0_B m c t h0]
  frame_out
  exact gains_bias m c t l _

/-- The four rows after a point: each what it was and the block's share of its tap. -/
def gained (e : Vec Ideal S4x512 .f32) (y : S4x512.Idx) : EReal :=
  e y + ∑ r, tapPart m c (ch (band t) ⟨(y 1).val, (y 1).isLt⟩) ⟨(y 0).val, (y 0).isLt⟩ (row (blockOf t) r)

/-- A row stored alone lands at its place. -/
theorem emb_row (k : Fin 4) (inb : ∀ a, (![k.val, 0] : Fin 2 → ℕ) a + (![1, 512] : Fin 2 → ℕ) a ≤ S4x512.size a) (x : S1x512.Idx) :
    (Rect.unit (s := S4x512) ![k.val, 0] ![1, 512] inb).emb x = ix2 k ⟨(x 1).val, (x 1).isLt⟩ := by
  have h0 : (x 0).val < 1 := (x 0).isLt
  funext a
  refine Fin.ext ((ValueKit.rect_emb_unit_val _ _ _ _ _).trans ?_)
  match a with
  | 0 => show k.val + (x 0).val = k.val; omega
  | 1 => show 0 + (x 1).val = (x 1).val; omega

/-- A row stored alone holds its row's lanes. -/
theorem held (k : Fin 4) (l : Fin 512) (inb : ∀ a, (![k.val, 0] : Fin 2 → ℕ) a + (![1, 512] : Fin 2 → ℕ) a ≤ S4x512.size a) :
    (ix2 k l : S4x512.Idx) ∈ (Rect.unit (s := S4x512) ![k.val, 0] ![1, 512] inb).set := by
  rw [Rect.mem_set_unit]
  intro a
  match a with
  | 0 => exact ⟨Nat.le_refl _, Nat.lt_succ_self _⟩
  | 1 => exact ⟨Nat.zero_le _, (by omega : l.val < 0 + 512)⟩

/-- A stored row is a row of the gained block. -/
theorem gained_row (e : Vec Ideal S4x512 .f32) (k : Fin 4) (inb : ∀ a, (![k.val, 0] : Fin 2 → ℕ) a + (![1, 512] : Fin 2 → ℕ) a ≤ S4x512.size a)
    (f : Vec Ideal S1x512 .f32 → Vec Ideal S1x512 .f32)
    (h : ∀ l a, f a (ix2 0 l) = a (ix2 0 l) + ∑ r, tapPart m c (ch (band t) l) k (row (blockOf t) r)) (x : S1x512.Idx) :
    f (View.ld e (Rect.unit (s := S4x512) ![k.val, 0] ![1, 512] inb)) x = gained m c t e ((Rect.unit (s := S4x512) ![k.val, 0] ![1, 512] inb).emb x) := by
  obtain ⟨l, rfl⟩ : ∃ l : Fin 512, x = ix2 0 l := ⟨x 1, (eq_ix2 x).trans (congrArg (fun z => ix2 z (x 1)) (Fin.ext (by have h0 : (x 0).val < 1 := (x 0).isLt; show (x 0).val = 0; omega)))⟩
  rw [h, emb_row]
  refine congrArg₂ (· + ·) (congrArg e (emb_row k inb (ix2 0 l))) rfl

/-- Four rows stored alone, over anything, leave the gained block. -/
theorem gained_all (e : Vec Ideal S4x512 .f32) (L' : List (View.Piece (Elt Ideal) S4x512 .f32)) (a b d : FVec Ideal S512x512 .f32)
    (ha : a = k0_pay4 (grid0.coords t) (X0_0 m c t) (X0_1 m c t)) (hb : b = k0_pay5 (grid0.coords t) (X0_0 m c t) (X0_1 m c t))
    (hd : d = k0_pay7 (X0_0 m c t) (k0_pay3 (grid0.coords t) (X0_1 m c t)) 3#32) (k : Fin 4) :
    View.canon (⟨Rect.unit ![0, 0] ![1, 512] inb_S4x512_S1x512_0_0, k0_pay2 d (gblk m c t) (View.ld e (Rect.unit ![0, 0] ![1, 512] inb_S4x512_S1x512_0_0))⟩
      :: ⟨Rect.unit ![1, 0] ![1, 512] inb_S4x512_S1x512_1_0, k0_pay1 b (gblk m c t) (View.ld e (Rect.unit ![1, 0] ![1, 512] inb_S4x512_S1x512_1_0))⟩
      :: ⟨Rect.unit ![2, 0] ![1, 512] inb_S4x512_S1x512_2_0, k0_pay24 a (gblk m c t) (View.ld e (Rect.unit ![2, 0] ![1, 512] inb_S4x512_S1x512_2_0))⟩
      :: ⟨Rect.unit ![3, 0] ![1, 512] inb_S4x512_S1x512_3_0, k0_pay23 (X0_0 m c t) (gblk m c t) (View.ld e (Rect.unit ![3, 0] ![1, 512] inb_S4x512_S1x512_3_0))⟩ :: L')
      (ix2 k l) = e (ix2 k l) + ∑ r, tapPart m c (ch (band t) l) k (row (blockOf t) r) := by
  subst ha hb hd
  refine View.canon_append_of_piecesOf (gained m c t e) L' [_, _, _, _] ⟨fun x => ?_, fun x => ?_, fun x => ?_, fun x => ?_, trivial⟩ (ix2 k l) ?_
  · exact gained_row m c t e 0 _ (k0_pay2 _ (gblk m c t)) (gains_0 m c t) x
  · exact gained_row m c t e 1 _ (k0_pay1 _ (gblk m c t)) (gains_1 m c t) x
  · exact gained_row m c t e 2 _ (k0_pay24 _ (gblk m c t)) (gains_2 m c t) x
  · exact gained_row m c t e 3 _ (k0_pay23 _ (gblk m c t)) (gains_3 m c t) x
  · match k with
    | 0 => exact ⟨_, List.mem_cons_self, held 0 l inb_S4x512_S1x512_0_0⟩
    | 1 => exact ⟨_, List.mem_cons_of_mem _ List.mem_cons_self, held 1 l inb_S4x512_S1x512_1_0⟩
    | 2 => exact ⟨_, List.mem_cons_of_mem _ (List.mem_cons_of_mem _ List.mem_cons_self), held 2 l inb_S4x512_S1x512_2_0⟩
    | 3 => exact ⟨_, List.mem_cons_of_mem _ (List.mem_cons_of_mem _ (List.mem_cons_of_mem _ List.mem_cons_self)), held 3 l inb_S4x512_S1x512_3_0⟩

theorem tap_step (h0 : ¬t.val % 8 = 0) (k : Fin 4) : (outsAt0 m c t.val t.isLt).2.1 (ix2 k l)
    = (outsAt0 m c (t.val - 1) (Nat.lt_of_le_of_lt (Nat.sub_le _ _) t.isLt)).2.1 (ix2 k l) + ∑ r, tapPart m c (ch (band t) l) k (row (blockOf t) r) := by
  rw [outsAt0_B m c t h0]
  frame_out
  exact gained_all m c t l _ [] _ _ _ rfl rfl rfl k

theorem tap_start (h0 : t.val % 8 = 0) (k : Fin 4) : (outsAt0 m c t.val t.isLt).2.1 (ix2 k l) = ∑ r, tapPart m c (ch (band t) l) k (row (blockOf t) r) := by
  rw [outsAt0_A m c t h0]
  frame_open
  simp (disch := decide) only [↓ View.readCov_skip, ↓ View.readCov_cons_toLoadRect, ↓ View.readCov_fill]
  frame_out
  refine (gained_all m c t l (k0_pay20 (F := Ideal)) [_] _ _ _ rfl rfl rfl k).trans ?_
  pointwise [k0_pay20]

/-- Three bands of eight grid points, each band gathering a sum. -/
theorem gather (o : (n : ℕ) → n < cfg0.N → EReal) (part : Fin 3 → Fin 4096 → EReal)
    (h0 : ∀ t : Fin cfg0.N, t.val % 8 = 0 → o t.val t.isLt = ∑ r, part (band t) (row (blockOf t) r))
    (hs : ∀ t : Fin cfg0.N, ¬t.val % 8 = 0 →
      o t.val t.isLt = o (t.val - 1) (Nat.lt_of_le_of_lt (Nat.sub_le _ _) t.isLt) + ∑ r, part (band t) (row (blockOf t) r))
    (t : Fin cfg0.N) (h : t.val % 8 = 7) : o t.val t.isLt = ∑ R, part (band t) R := by
  have hN : t.val < 24 := t.isLt
  have same : ∀ (a b : ℕ) (ha : a < cfg0.N) (hb : b < cfg0.N), a = b → o a ha = o b hb := fun a b ha hb e => by subst e; rfl
  let at' (n : Fin 8) : Fin cfg0.N := ⟨t.val / 8 * 8 + n.val, by show _ < 24; omega⟩
  have hband : ∀ n, band (at' n) = band t := fun n => Fin.ext (by show (t.val / 8 * 8 + n.val) / 8 = t.val / 8; omega)
  have hblock : ∀ n, blockOf (at' n) = n := fun n => Fin.ext (by show (t.val / 8 * 8 + n.val) % 8 = n.val; omega)
  have last := gathered (fun n hn => o (t.val / 8 * 8 + n) (by show _ < 24; omega)) (part (band t))
    (fun n hn => by
      have e := h0 (at' n) (by show (t.val / 8 * 8 + n.val) % 8 = 0; omega)
      rw [hband, hblock] at e
      exact e)
    (fun n hn => by
      have e := hs (at' n) (by show ¬(t.val / 8 * 8 + n.val) % 8 = 0; omega)
      rw [hband, hblock] at e
      exact e.trans (congrArg (· + _) (same _ _ _ _ (by show t.val / 8 * 8 + n.val - 1 = t.val / 8 * 8 + (n.val - 1); omega))))
    7 rfl
  exact (same _ _ _ _ (by show t.val = t.val / 8 * 8 + 7; omega)).trans last

theorem taps_all (h : t.val % 8 = 7) (k : Fin 4) : (outsAt0 m c t.val t.isLt).2.1 (ix2 k l) = ∑ R, tapPart m c (ch (band t) l) k R :=
  gather (fun n hn => (outsAt0 m c n hn).2.1 (ix2 k l)) (fun q => tapPart m c (ch q l) k) (fun t h => tap_start m c t l h k) (fun t h => tap_step m c t l h k) t h

theorem bias_all (h : t.val % 8 = 7) : (outsAt0 m c t.val t.isLt).2.2 (ix2 0 l) = ∑ R, biasPart m c (ch (band t) l) R :=
  gather (fun n hn => (outsAt0 m c n hn).2.2 (ix2 0 l)) (fun q => biasPart m c (ch q l)) (fun t h => bias_start m c t l h) (fun t h => bias_step m c t l h) t h

/-! ## The two programs -/

instance preFacts : Cert.Pre_finite6.Facts where
  bcast_S_S4096x1536 := by decide

variable (h : Cert.Pre_Kernel6Ideal_finite6 m)
include h

theorem finite_dxc (i) : Finite (dxc m c i) := finite_of_below (h c) i

/-- The gradient of the taps. -/
theorem taps_eq : (dats m 0 c).arrAt 8 cfg0.N = Cert.Reference6Ideal.Read.val_main_v66 (F := Ideal) (proj m c) (conv m c) (bias m c) (dxc m c) := by
  refine (dats m 0 c).arrAt_eq_of_covers 8 _ (by decide +kernel) fun t hf y => ?_
  blk_simp
  rw [after0_8]
  obtain ⟨k, l, rfl⟩ : ∃ (k : Fin 4) (l : Fin 512), y = ix2 k l := ⟨y 0, y 1, eq_ix2 y⟩
  refine Eq.trans ?_ (congrArg _ (show _ = ix2 k (ch (band t) l) by blk_ext [index t, ch, band])).symm
  exact (taps_all m c t l ((flush0_8 t).mp hf) k).trans (ref_dw _ _ _ _ (finite_dxc m c h) k _).symm

/-- The gradient of the bias. -/
theorem bias_eq : (dats m 0 c).arrAt 9 cfg0.N = Cert.Reference6Ideal.Read.val_main_v32 (F := Ideal) (proj m c) (conv m c) (bias m c) (dxc m c) := by
  refine (dats m 0 c).arrAt_eq_of_covers 9 _ (by decide +kernel) fun t hf y => ?_
  blk_simp
  rw [after0_9]
  obtain ⟨z, l, rfl⟩ : ∃ (z : Fin 1) (l : Fin 512), y = ix2 z l := ⟨y 0, y 1, eq_ix2 y⟩
  obtain rfl : z = 0 := Subsingleton.elim _ _
  refine Eq.trans ?_ (congrArg _ (show _ = ix2 0 (ch (band t) l) by blk_ext [index t, ch, band])).symm
  exact (bias_all m c t l ((flush0_9 t).mp hf)).trans (ref_db _ _ _ _ (finite_dxc m c h) _).symm

omit h in
/-- The channel of the column that a lane is written to. -/
theorem back_ch : back_chan ((if t.val / 8 < 2 then 2 + t.val / 8 else 10) * 512 + l.val) = ch (band t) l := by
  have hN : t.val < 24 := t.isLt
  refine Fin.ext ?_
  unfold back_chan ch band
  dsimp only
  split <;> split <;> omega

omit h in
/-- The packed gradient: its own columns are written, the others stay. -/
theorem packed_read : (dats m 0 c).arrAt 7 cfg0.N = fun i : S4096x5760.Idx => if mine (i 1).val then
      (fun i : S4096x5760.Idx => dsig (dr m c (back_chan (i 1).val)) (taps (conv m c) (back_chan (i 1).val)) (i 0).val) i
    else (dats m 0 c).A 7 i := by
  refine (dats m 0 c).arrAt_eq_of_coversWhere 7 _ (fun β => β (1 : Fin 2) = 2 ∨ β (1 : Fin 2) = 3 ∨ β (1 : Fin 2) = 10) (by decide +kernel)
    (fun t hf y => ?_) (fun j => by unfold mine; blk_simp [Pipeline.Window.cell_apply]; omega)
  blk_simp
  rw [after0_7]
  have h0 : (y 0).val < 512 := ((cfg0.win 7).xinj (cfg0.grid.coords t) y 0).isLt
  have h1 : (y 1).val < 512 := ((cfg0.win 7).xinj (cfg0.grid.coords t) y 1).isLt
  have e : (cfg0.win 7).xinj (cfg0.grid.coords t) y = (ix2 ⟨(y 0).val, h0⟩ ⟨(y 1).val, h1⟩ : S512x512.Idx) := eq_ix2 _
  obtain ⟨_, _, _, _, _, _, _, i7, _⟩ := index t
  rw [e, out_rows, i7, step]
  show _ = dsig (dr m c (back_chan ((if t.val / 8 < 2 then 2 + t.val / 8 else 10) * 512 + (y 1).val)))
    (taps (conv m c) (back_chan ((if t.val / 8 < 2 then 2 + t.val / 8 else 10) * 512 + (y 1).val))) (t.val % 8 * 512 + (y 0).val)
  rw [back_ch t ⟨(y 1).val, h1⟩, Nat.mul_comm]

/-- The packed gradient. -/
theorem packed_eq : (dats m 0 c).arrAt 7 cfg0.N
    = Cert.Reference6Ideal.Read.val_main_v75 (F := Ideal) (proj m c) (conv m c) (bias m c) (dxc m c) (packed m c) := by
  rw [packed_read]
  funext i
  obtain ⟨R, C, rfl⟩ : ∃ (R : Fin 4096) (C : Fin 5760), i = ix2 R C := ⟨i 0, i 1, eq_ix2 i⟩
  refine Eq.trans ?_ (ref_out _ _ _ _ _ (finite_dxc m c h) R C).symm
  refine if_congr Iff.rfl rfl ?_
  rw [A_eq]
  entry_read
  rfl

omit h in
/-- Where the convolution's gradient is finite, kernel and reference end with the same three arrays. -/
theorem algebraic : Cert.algebraic_Kernel6Ideal_Reference6Ideal_pre_finite6 := fun m g m' g' hpre hargs =>
  ⟨_, _, _, (θ_run _ _ _).mono (fun _ h c => ⟨(h c).1.trans (packed_eq m c hpre), (h c).2.1.trans (taps_eq m c hpre),
      (h c).2.2.1.trans (bias_eq m c hpre), (h c).2.2.2⟩) (Value.run_blocks m g),
    (θ_run _ _ _).mono (fun _ h c => by
      obtain ⟨a0, a1, a2, a3, a4⟩ := hargs c
      beta_reduce
      unfold proj conv bias dxc packed
      rw [← a0, ← a1, ← a2, ← a3, ← a4]
      exact ⟨(h c).1.trans (Cert.Reference6Ideal.Read.val_main_v75_eq ..), (h c).2.1.trans (Cert.Reference6Ideal.Read.val_main_v66_eq ..),
        (h c).2.2.1.trans (Cert.Reference6Ideal.Read.val_main_v32_eq ..), (h c).2.2.2⟩) (Cert.Reference6Ideal.Value.run m' g')⟩

end Cert.ConvBwd

end
-- ==== Proof.RmsGrad.lean ====
/-
  The gradient of a row's division by its root mean square, in the two forms that occur: one formula, and the one that goes through
  the mean square step by step.  They agree on every row of extended reals: a row with an infinite entry has an infinite mean square,
  so that both are zero.
-/
module

public import proofs.«01_k».proof.Proof.LayerGrad

@[expose] public section

noncomputable section

open Idealize.ShloMosaic

namespace Cert.RmsGrad

open Cert.LayerGrad

/-- The mean square of a row, and a small constant. -/
def square (f : Fin 1024 → EReal) : EReal := mean (fun k => f k * f k) + Ideal.ofBits .f32 0x3727C5AC#32
/-- One over the root of it. -/
def root (f : Fin 1024 → EReal) : EReal := Ideal.rsqrt (square f)

/-- The gradient with respect to the row, from the gradient `q` with respect to the divided row: one formula. -/
def pull (f q : Fin 1024 → EReal) (l : Fin 1024) : EReal :=
  root f * q l - root f * root f * root f * f l * mean (fun k => q k * f k)

/-- What the mean square passes on to each entry, but for the entry itself. -/
def passed (f q : Fin 1024 → EReal) : EReal :=
  Ideal.div ((∑ k, f k * q k) * (Ideal.ofBits .f32 0xBF000000#32 * Ideal.div (root f) (square f))) (Ideal.ofBits .f32 0x44800000#32)
/-- The gradient as a sum: the direct part, and one for each factor of the square. -/
def pullSteps (f q : Fin 1024 → EReal) (l : Fin 1024) : EReal := (q l * root f + f l * passed f q) + passed f q * f l

theorem mean_eq (f : Fin 1024 → EReal) : mean f = (∑ k, f k) * ((1 / 1024 : ℝ) : EReal) := by
  unfold mean
  rw [ofBits_width, Ideal.div_coe (by norm_num)]

/-- A square is not negative. -/
theorem mul_self_nonneg' (x : EReal) : 0 ≤ x * x := by
  induction x with
  | bot => simp
  | top => simp
  | coe r => exact_mod_cast mul_self_nonneg r

/-- Twice a number, whatever it is. -/
theorem add_self (x : EReal) : x + x = x * ((2 : ℝ) : EReal) := by
  induction x with
  | bot => rw [EReal.bot_mul_coe_of_pos (by norm_num)]; rfl
  | top => rw [EReal.top_mul_coe_of_pos (by norm_num)]; rfl
  | coe r => rw [← EReal.coe_add, ← EReal.coe_mul, mul_two]

/-- A row of real numbers has a positive real mean square; any other row has an infinite one. -/
theorem square_cases (f : Fin 1024 → EReal) : (∃ (F : Fin 1024 → ℝ) (s : ℝ), f = (fun k => (F k : EReal)) ∧ 0 < s ∧ square f = (s : EReal)) ∨ square f = ⊤ := by
  by_cases h : ∀ k, Finite (f k)
  · choose F hF using h
    obtain rfl : f = fun k => (F k : EReal) := funext hF
    refine .inl ⟨F, (∑ k, F k * F k) * (1 / 1024) + 2748779 / 274877906944, rfl,
      add_pos_of_nonneg_of_pos (mul_nonneg (Finset.sum_nonneg fun k _ => mul_self_nonneg _) (by norm_num)) (by norm_num), ?_⟩
    unfold square
    rw [mean_eq, ofBits_eps]
    simp only [← EReal.coe_mul, coe_sum, ← EReal.coe_add]
  · refine .inr ?_
    obtain ⟨k, hk⟩ := not_forall.mp h
    have hs : f k * f k = ⊤ := by
      induction hx : f k with
      | bot => rfl
      | top => rfl
      | coe r => exact absurd ⟨r, hx⟩ hk
    have ht : ∑ k, f k * f k = ⊤ := top_le_iff.mp (hs ▸ Finset.single_le_sum (fun i _ => mul_self_nonneg' (f i)) (Finset.mem_univ k))
    unfold square
    rw [mean_eq, ht, EReal.top_mul_coe_of_pos (by norm_num), ofBits_eps, EReal.top_add_coe]

/-- The two forms of the gradient agree. -/
theorem pullSteps_eq (f q : Fin 1024 → EReal) (l : Fin 1024) : pullSteps f q l = pull f q l := by
  have hc : ∑ k, q k * f k = ∑ k, f k * q k := Finset.sum_congr rfl fun k _ => mul_comm _ _
  unfold pullSteps pull passed
  rw [mean_eq, hc, ofBits_width, Ideal.div_coe (by norm_num), ofBits_neg_half]
  generalize ∑ k, f k * q k = X
  rcases square_cases f with ⟨F, s, rfl, hs, e⟩ | e
  · have hi : root (fun k => (F k : EReal)) = (((Real.sqrt s)⁻¹ : ℝ) : EReal) := by
      unfold root
      rw [e, Ideal.rsqrt_coe, if_neg (not_lt.mpr hs.le), if_neg hs.ne']
    have hr : (Real.sqrt s)⁻¹ * (Real.sqrt s)⁻¹ * s = 1 := by
      rw [← mul_inv, Real.mul_self_sqrt hs.le, inv_mul_cancel₀ hs.ne']
    rw [hi, e, Ideal.div_coe hs.ne']
    generalize (Real.sqrt s)⁻¹ = r at hr
    have e1 : r * (1 / s) = r * r * r := by
      field_simp
      linear_combination (-r) * hr
    have e2 : (F l : EReal) * (X * (((-(1 / 2) : ℝ) : EReal) * ((r : EReal) * ((1 / s : ℝ) : EReal))) * ((1 / 1024 : ℝ) : EReal))
        = X * ((-(F l * (r * r * r) * (1 / 1024)) / 2 : ℝ) : EReal) := by
      rw [← EReal.coe_mul, e1, ← EReal.coe_mul, mul_assoc, ← EReal.coe_mul, mul_left_comm, ← EReal.coe_mul]
      congr 2
      ring
    have e3 : (r : EReal) * r * r * F l * (X * ((1 / 1024 : ℝ) : EReal)) = -(X * ((-(F l * (r * r * r) * (1 / 1024)) : ℝ) : EReal)) := by
      rw [← EReal.coe_mul, ← EReal.coe_mul, ← EReal.coe_mul, mul_left_comm, ← EReal.coe_mul, ← mul_neg, ← EReal.coe_neg]
      congr 2
      ring
    rw [mul_comm _ (F l : EReal), e2, e3, add_assoc, add_self, mul_assoc, ← EReal.coe_mul, sub_eq_add_neg, neg_neg, mul_comm (q l)]
    congr 3
    ring
  · have hi : root f = 0 := by
      unfold root
      rw [e, Ideal.rsqrt_top]
    rw [hi, e]
    have hd : Ideal.div 0 ⊤ = 0 := by simp [Ideal.div]
    simp [hd]

end Cert.RmsGrad

end
-- ==== Proof.DyMixAtt.lean ====
/-
  The gradient through the output product and the norm of the attention's heads.  One grid point takes 512 rows: their product with
  the whole weight, times the norm's gain, pulled back through the division by the root mean square.  A row vector gathers the
  gradient of the gain over the grid.
-/
module

public import proofs.«01_k».proof.Defs
public import proofs.«01_k».proof.Proof.RmsGrad
public import proofs.«01_k».proof.Proof.GridSum
public import proofs.«01_k».proof.Proof.Gen.Kernel8Ideal.Value
public import proofs.«01_k».proof.Proof.Gen.Reference8Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DyMixAtt

open Cert.Kernel8Ideal Cert.Kernel8Ideal.Gen Cert.LayerGrad Cert.RmsGrad Cert.GridSum

/-- One row of the product: the incoming row `u` against each row of the weight. -/
def prod (u : Fin 1024 → EReal) (w : Fin 1024 → Fin 1024 → EReal) (l : Fin 1024) : EReal := ∑ k, u k * w l k

/-! ## One grid point -/

/-- The rows of a block. -/
def brow (x : Vec Ideal S512x1024 .f32) (r : Fin 512) (l : Fin 1024) : EReal := x (ix2 r l)
/-- The rows of a block of the incoming gradient. -/
def crow (x : Vec Ideal S512x1024 .bf16) (r : Fin 512) (l : Fin 1024) : EReal := x (ix2 r l)
/-- The rows of the weight. -/
def wrow (x : Vec Ideal S1024x1024 .bf16) (r l : Fin 1024) : EReal := x (ix2 r l)
/-- A row vector. -/
def vec (x : Vec Ideal S1x1024 .f32) (l : Fin 1024) : EReal := x (ix2 0 l)

section pay
variable (x0 : Vec Ideal S512x1024 .bf16) (x1 : Vec Ideal S1024x1024 .bf16) (x2 : Vec Ideal S512x1024 .f32)
  (x3 xo : Vec Ideal S1x1024 .f32) (r : Fin 512) (l : Fin 1024)

theorem pay_prod : k0_pay3 x0 x1 (ix2 r l) = prod (crow x0 r) (wrow x1) l := by
  unfold prod crow wrow
  pointwise [k0_pay3]

theorem pay_inv (z : Fin 1) : k0_pay4 x2 (ix2 r z) = root (brow x2 r) := by
  unfold root square mean brow
  pointwise [k0_pay4]

/-- The block of the gradient with respect to the heads. -/
theorem pay_grad : k0_pay5 x0 x1 x2 x3 (ix2 r l) = pull (brow x2 r) (fun k => prod (crow x0 r) (wrow x1) k * vec x3 k) l := by
  have e0 := fun l => pay_prod x0 x1 r l
  have e1 := pay_inv x2 r 0
  unfold pull mean
  simp only [← e0, ← e1]
  unfold k0_pay5 brow vec
  generalize k0_pay3 x0 x1 = p
  generalize k0_pay4 x2 = s
  pointwise []

/-- What a point adds to the gradient of the gain. -/
theorem pay_sum : k0_pay2 (k0_pay6 x0 x1 x2) xo (ix2 0 l)
    = xo (ix2 0 l) + ∑ r, prod (crow x0 r) (wrow x1) l * brow x2 r l * root (brow x2 r) := by
  have e0 := fun r => pay_prod x0 x1 r l
  have e1 := fun r => pay_inv x2 r 0
  simp only [← e0, ← e1]
  unfold k0_pay6 brow
  generalize k0_pay3 x0 x1 = p
  generalize k0_pay4 x2 = s
  pointwise [k0_pay2]

theorem pay_zero : (k0_pay1 : FVec Ideal S1x1024 .f32) (ix2 0 l) = 0 := by
  pointwise [k0_pay1]

end pay

/-! ## The reference -/

/-- The rows of a whole array. -/
def arow (x : Vec Ideal S4096x1024 .f32) (R : Fin 4096) (l : Fin 1024) : EReal := x (ix2 R l)
/-- The rows of the incoming gradient. -/
def drow (x : Vec Ideal S4096x1024 .bf16) (R : Fin 4096) (l : Fin 1024) : EReal := x (ix2 R l)

section reference
open Cert.Reference8Ideal.Read

variable (x0 : Vec Ideal S4096x1024 .bf16) (x1 : Vec Ideal S1024x1024 .bf16) (x2 : Vec Ideal S4096x1024 .f32)
  (x3 : Vec Ideal S1x1024 .f32) (R : Fin 4096) (l : Fin 1024)

theorem ref_prod : val_main_v18 (F := Ideal) x0 x1 (ix2 R l) = prod (drow x0 R) (wrow x1) l := by
  unfold prod drow wrow
  pointwise [val_main_v18, val_main_v17, val_main_v15]

theorem ref_square (z : Fin 1) : val_main_v6 (F := Ideal) x2 (ix2 R z) = square (arow x2 R) := by
  unfold square mean arow
  pointwise [val_main_v6, val_main_v5, val_main_cst_1, val_main_v4, val_main_v3, val_main_cst_0, val_main_v2, val_main_v1, val_main_cst, val_main_v0]

theorem ref_inv (z : Fin 1) : val_main_v7 (F := Ideal) x2 (ix2 R z) = root (arow x2 R) := by
  unfold root
  rw [← ref_square x2 R z]
  pointwise [val_main_v7]

theorem ref_grad : val_main_v37 (F := Ideal) x0 x1 x2 x3 (ix2 R l)
    = pull (arow x2 R) (fun k => prod (drow x0 R) (wrow x1) k * vec x3 k) l := by
  rw [← pullSteps_eq]
  have e0 := fun l => ref_prod x0 x1 R l
  unfold pullSteps passed
  simp only [← e0, ← ref_inv x2 R 0, ← ref_square x2 R 0]
  unfold arow vec
  pointwise [val_main_v37, val_main_v36, val_main_v35, val_main_v34, val_main_v33, val_main_v32, val_main_cst_6, val_main_v31, val_main_v30,
    val_main_cst_5, val_main_v29, val_main_v28, val_main_v27, val_main_v26, val_main_v25, val_main_cst_4, val_main_v24, val_main_v23,
    val_main_v22, val_main_v10, val_main_v9, val_main_cst_2, val_main_v8]
  simp only [Finset.univ_unique, Finset.sum_singleton, Fin.default_eq_zero]

theorem ref_sum : val_main_v21 (F := Ideal) x0 x1 x2 (ix2 0 l)
    = ∑ R, prod (drow x0 R) (wrow x1) l * arow x2 R l * root (arow x2 R) := by
  have e0 := fun R => ref_prod x0 x1 R l
  have e1 := fun R => ref_inv x2 R 0
  simp only [← e0, ← e1]
  unfold arow
  pointwise [val_main_v21, val_main_v20, val_main_cst_3, val_main_v19, val_main_v12, val_main_v11]
  exact Finset.sum_congr rfl fun R _ => by rw [mul_comm (G := EReal), mul_assoc (G := EReal)]

end reference

/-! ## The whole arrays -/

variable (m : (ℓ : Loc nD τ sig) → Buf (Elt Ideal) ℓ)

/-- Bands of 512 rows; the weight, the gain and its gradient stay in place. -/
theorem index (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![0, 0] := by
  revert t; decide +kernel

/-- The blocks of a grid point are rows of the arrays, or the arrays themselves. -/
theorem blocks (c : Dev nD) (t : Fin cfg0.N) (r : Fin 512) :
    crow (iblk m c 0 t) r = drow (m ((c : Thread nD τ).loc main_arg0)) (row t r)
    ∧ wrow (iblk m c 1 t) = wrow (m ((c : Thread nD τ).loc main_arg1))
    ∧ brow (iblk m c 2 t) r = arow (m ((c : Thread nD τ).loc main_arg2)) (row t r)
    ∧ vec (iblk m c 3 t) = vec (m ((c : Thread nD τ).loc main_arg3)) := by
  refine ⟨funext fun k => ?_, funext fun k => funext fun l => ?_, funext fun k => ?_, funext fun k => ?_⟩
  · unfold crow drow; blk_ext [iblk, index t, V_main_arg0, row]
  · unfold wrow; blk_ext [iblk, index t, V_main_arg1]
  · unfold brow arow; blk_ext [iblk, index t, V_main_arg2, row]
  · unfold vec; blk_ext [iblk, index t, V_main_arg3]

/-- The gradient with respect to the heads. -/
theorem heads_eq (c : Dev nD) : (dats m 0 c).arrAt 4 cfg0.N = Cert.Reference8Ideal.Read.val_main_v37 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, l, rfl⟩ : ∃ (r : Fin 512) (l : Fin 1024), y = ix2 r l := ⟨y 0, y 1, eq_ix2 y⟩
  refine Eq.trans ?_ (congrArg _ (show _ = ix2 (row t r) l by blk_ext [index t, row])).symm
  obtain ⟨b0, b1, b2, b3⟩ := blocks m c t r
  refine Eq.trans ?_ (ref_grad ..).symm
  rw [← b0, ← b1, ← b2, ← b3, ← pay_grad]
  by_cases h : t.val % 8 = 0
  · rw [outsAt0_A m c t h]; frame_out
  · rw [outsAt0_B m c t h]; frame_out

/-- What row `R` of the arrays adds to entry `l` of the gradient of the gain. -/
def part (c : Dev nD) (l : Fin 1024) (R : Fin 4096) : EReal :=
  prod (drow (m ((c : Thread nD τ).loc main_arg0)) R) (wrow (m ((c : Thread nD τ).loc main_arg1))) l
    * arow (m ((c : Thread nD τ).loc main_arg2)) R l * root (arow (m ((c : Thread nD τ).loc main_arg2)) R)

/-- A point adds its 512 rows. -/
theorem added (c : Dev nD) (l : Fin 1024) (t : Fin cfg0.N) (xo : Vec Ideal S1x1024 .f32) :
    k0_pay2 (k0_pay6 (iblk m c 0 t) (iblk m c 1 t) (iblk m c 2 t)) xo (ix2 0 l) = xo (ix2 0 l) + ∑ r, part m c l (row t r) := by
  refine (pay_sum ..).trans (congrArg _ (Finset.sum_congr rfl fun r _ => ?_))
  obtain ⟨b0, b1, b2, _⟩ := blocks m c t r
  rw [b0, b1, b2]
  rfl

/-- The first point starts the row vector with its own rows. -/
theorem start (c : Dev nD) (l : Fin 1024) (t : Fin cfg0.N) (h : t.val % 8 = 0) :
    (outsAt0 m c t.val t.isLt).2 (ix2 0 l) = ∑ r, part m c l (row t r) := by
  rw [outsAt0_A m c t h]
  frame_out
  rw [added, pay_zero, zero_add]

/-- A later point adds its own rows. -/
theorem step (c : Dev nD) (l : Fin 1024) (t : Fin cfg0.N) (h : ¬t.val % 8 = 0) : (outsAt0 m c t.val t.isLt).2 (ix2 0 l)
    = (outsAt0 m c (t.val - 1) (Nat.lt_of_le_of_lt (Nat.sub_le _ _) t.isLt)).2 (ix2 0 l) + ∑ r, part m c l (row t r) := by
  rw [outsAt0_B m c t h]
  frame_out
  rw [added]

/-- The gradient of the gain. -/
theorem gain_eq (c : Dev nD) : (dats m 0 c).arrAt 5 cfg0.N = Cert.Reference8Ideal.Read.val_main_v21 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨z, l, rfl⟩ : ∃ (z : Fin 1) (l : Fin 1024), y = ix2 z l := ⟨y 0, y 1, eq_ix2 y⟩
  obtain rfl : z = 0 := Subsingleton.elim _ _
  refine Eq.trans ?_ (congrArg _ (show _ = ix2 0 l by blk_ext [index t])).symm
  exact (gathered (fun n h => (outsAt0 m c n h).2 (ix2 0 l)) (part m c l) (fun t h => start m c l t h) (fun t h => step m c l t h) t
    ((flush0_5 t).mp hf)).trans (ref_sum ..).symm

/-- From any memory, kernel and reference end with the same two arrays. -/
theorem algebraic : Cert.algebraic_Kernel8Ideal_Reference8Ideal := fun m g m' g' _ hargs =>
  ⟨_, _, (θ_run _ _ _).mono (fun _ h c => ⟨(h c).1.trans (heads_eq m c), (h c).2.1.trans (gain_eq m c), (h c).2.2⟩) (Value.run_blocks m g),
    (θ_run _ _ _).mono (fun _ h c => by
      obtain ⟨a0, a1, a2, a3⟩ := hargs c
      beta_reduce
      rw [← a0, ← a1, ← a2, ← a3]
      exact ⟨(h c).1.trans (Cert.Reference8Ideal.Read.val_main_v37_eq m' c), (h c).2.1.trans (Cert.Reference8Ideal.Read.val_main_v21_eq ..),
        (h c).2.2⟩) (Cert.Reference8Ideal.Value.run m' g')⟩

end Cert.DyMixAtt

end
-- ==== Proof.Head.lean ====
/-
  The last product of the feed-forward block, the second layer norm, the loss and their gradient, in one pass over the rows.
  One grid point takes 512 rows.  Two of its results are bands of rows; the gradients of the norm's gain and offset, that of the
  gate, and the loss gather over the grid.
-/
module

public import proofs.«01_k».proof.Defs
public import proofs.«01_k».proof.Proof.LayerGrad
public import proofs.«01_k».proof.Proof.GridSum
public import proofs.«01_k».proof.Proof.Gen.Kernel9Ideal.Value
public import proofs.«01_k».proof.Proof.Gen.Reference9Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Head

open Cert.Kernel9Ideal Cert.Kernel9Ideal.Gen Cert.LayerGrad Cert.GridSum

/-! ## One row -/

/-- What one row of the results reads: its row of the activations, of the residual and of the target, the weight, the gate, and the
    gains and offsets of the two norms. -/
structure Row where
  act : Fin 4096 → EReal
  weight : Fin 4096 → Fin 1024 → EReal
  skip : Fin 1024 → EReal
  target : Fin 1024 → EReal
  gate : Fin 1024 → EReal
  gain1 : Fin 1024 → EReal
  offset1 : Fin 1024 → EReal
  gain2 : Fin 1024 → EReal
  offset2 : Fin 1024 → EReal

namespace Row

variable (a : Row) (l : Fin 1024)

/-- The product. -/
def prod : EReal := ∑ k, a.act k * a.weight k l
/-- The first norm, scaled for the residual sum. -/
def base : EReal := Ideal.ofBits .f32 0x3F9837F0#32 * (normed a.skip l * a.gain1 l + a.offset1 l)
/-- One over the gate's weight. -/
def open1 : EReal := Ideal.ofBits .f32 0x3F800000#32 + a.gate l
/-- The residual sum. -/
def sum : EReal := a.base l + a.open1 l * a.prod l
/-- The second norm's output less the target. -/
def err : EReal := normed a.sum l * a.gain2 l + a.offset2 l - a.target l
/-- The gradient with respect to the output. -/
def out : EReal := a.err l * Ideal.ofBits .f32 0x3A800000#32
/-- The gradient with respect to the normalised row. -/
def inner : EReal := a.out l * a.gain2 l
/-- The mean square error. -/
def loss : EReal := mean fun k => a.err k * a.err k

/-- All that the row reads is finite. -/
structure IsReal : Prop where
  act : ∀ k, Finite (a.act k)
  weight : ∀ k l, Finite (a.weight k l)
  skip : ∀ l, Finite (a.skip l)
  target : ∀ l, Finite (a.target l)
  gate : ∀ l, Finite (a.gate l)
  gain1 : ∀ l, Finite (a.gain1 l)
  offset1 : ∀ l, Finite (a.offset1 l)
  gain2 : ∀ l, Finite (a.gain2 l)
  offset2 : ∀ l, Finite (a.offset2 l)

theorem finite_sub {x y : EReal} : Finite x → Finite y → Finite (x - y)
  | ⟨u, hu⟩, ⟨v, hv⟩ => ⟨u - v, by rw [hu, hv, EReal.coe_sub]⟩

theorem finite_normed {f : Fin 1024 → EReal} (h : ∀ k, Finite (f k)) : Finite (normed f l) := by
  choose F hF using h
  obtain rfl : f = fun k => (F k : EReal) := funext hF
  unfold normed
  rw [mean_coe, scale_coe]
  exact (finite_sub ⟨_, rfl⟩ ⟨_, rfl⟩).mul ⟨_, rfl⟩

theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_part : Ideal.ofBits .f32 0x3A800000#32 = ((1 / 1024 : ℝ) : EReal) := by
  simp [Ideal.ofBits, Ideal.ieee, -EReal.coe_mul]; norm_num

variable {a}

theorem IsReal.sum (h : a.IsReal) : Finite (a.sum l) :=
  (ofBits_alpha.mul (((finite_normed l h.skip).mul (h.gain1 l)).add (h.offset1 l))).add
    ((Finite.add ⟨1, ofBits_one⟩ (h.gate l)).mul (Finite.sum fun k => (h.act k).mul (h.weight k l)))

theorem IsReal.inner (h : a.IsReal) : Finite (a.inner l) :=
  ((finite_sub (((finite_normed l h.sum).mul (h.gain2 l)).add (h.offset2 l)) (h.target l)).mul ⟨_, ofBits_part⟩).mul (h.gain2 l)

/-- On a row of finite entries both forms of the gradient agree. -/
theorem IsReal.steps (h : a.IsReal) : gradSteps a.sum a.inner l = grad a.sum a.inner l := gradSteps_eq h.sum h.inner l

end Row

open Row (ofBits_half ofBits_one ofBits_part)

/-! ## One grid point -/

/-- Half of a sum is the sum of the halves, whatever the entries. -/
theorem half_sum {ι : Type} (A : Finset ι) (f : ι → EReal) :
    Ideal.ofBits .f32 0x3F000000#32 * ∑ k ∈ A, f k = ∑ k ∈ A, Ideal.ofBits .f32 0x3F000000#32 * f k := by
  classical
  induction A using Finset.induction_on with
  | empty => simp
  | insert b A h ih =>
    rw [Finset.sum_insert h, Finset.sum_insert h, ← ih, ofBits_half,
      EReal.left_distrib_of_nonneg_of_ne_top (EReal.coe_nonneg.mpr (by norm_num)) (EReal.coe_ne_top _)]

/-- Row `r` of a grid point's blocks. -/
def brow (x0 : Vec Ideal S512x4096 .bf16) (x1 : Vec Ideal S4096x1024 .bf16) (x2 x3 : Vec Ideal S512x1024 .f32)
    (x4 x5 x6 x7 x8 : Vec Ideal S1x1024 .f32) (r : Fin 512) : Row :=
  ⟨fun k => x0 (ix2 r k), fun k l => x1 (ix2 k l), fun l => x2 (ix2 r l), fun l => x3 (ix2 r l), fun l => x4 (ix2 0 l), fun l => x5 (ix2 0 l),
    fun l => x6 (ix2 0 l), fun l => x7 (ix2 0 l), fun l => x8 (ix2 0 l)⟩

section pay
variable (x0 : Vec Ideal S512x4096 .bf16) (x1 : Vec Ideal S4096x1024 .bf16) (x2 x3 : Vec Ideal S512x1024 .f32)
  (x4 x5 x6 x7 x8 : Vec Ideal S1x1024 .f32) (r : Fin 512) (l : Fin 1024)

theorem pay_prod : k0_pay3 x0 x1 (ix2 r l) = (brow x0 x1 x2 x3 x4 x5 x6 x7 x8 r).prod l := by
  unfold Row.prod brow
  pointwise [k0_pay3]

theorem pay_base : k0_pay4 x2 x5 x6 (ix2 r l) = (brow x0 x1 x2 x3 x4 x5 x6 x7 x8 r).base l := by
  unfold Row.base normed scale spread mean brow
  pointwise [k0_pay4]

theorem pay_about : k0_pay5 (k0_pay3 x0 x1) x4 (k0_pay4 x2 x5 x6) (ix2 r l)
    = (brow x0 x1 x2 x3 x4 x5 x6 x7 x8 r).sum l - mean (brow x0 x1 x2 x3 x4 x5 x6 x7 x8 r).sum := by
  have e0 := fun l => pay_prod x0 x1 x2 x3 x4 x5 x6 x7 x8 r l
  have e1 := fun l => pay_base x0 x1 x2 x3 x4 x5 x6 x7 x8 r l
  unfold mean Row.sum Row.open1
  simp only [← e0, ← e1]
  unfold brow
  generalize k0_pay3 x0 x1 = p
  generalize k0_pay4 x2 x5 x6 = b
  pointwise [k0_pay5]

theorem pay_scale (z : Fin 1) : k0_pay6 (k0_pay3 x0 x1) x4 (k0_pay4 x2 x5 x6) (ix2 r z) = scale (brow x0 x1 x2 x3 x4 x5 x6 x7 x8 r).sum := by
  unfold scale spread
  simp only [← pay_about]
  unfold k0_pay6
  generalize k0_pay5 (k0_pay3 x0 x1) x4 (k0_pay4 x2 x5 x6) = d
  pointwise []

theorem pay_normed : k0_pay7 (k0_pay3 x0 x1) x4 (k0_pay4 x2 x5 x6) (ix2 r l) = normed (brow x0 x1 x2 x3 x4 x5 x6 x7 x8 r).sum l := by
  unfold normed
  rw [← pay_about, ← pay_scale _ _ _ _ _ _ _ _ _ _ 0]
  unfold k0_pay7
  generalize k0_pay5 (k0_pay3 x0 x1) x4 (k0_pay4 x2 x5 x6) = d
  generalize k0_pay6 (k0_pay3 x0 x1) x4 (k0_pay4 x2 x5 x6) = s
  pointwise []

theorem pay_err : k0_pay8 (k0_pay3 x0 x1) x3 x4 x7 x8 (k0_pay4 x2 x5 x6) (ix2 r l) = (brow x0 x1 x2 x3 x4 x5 x6 x7 x8 r).err l := by
  unfold Row.err
  rw [← pay_normed]
  unfold k0_pay8 brow
  generalize k0_pay7 (k0_pay3 x0 x1) x4 (k0_pay4 x2 x5 x6) = n
  pointwise []

theorem pay_loss : k0_pay9 (k0_pay3 x0 x1) x3 x4 x7 x8 (k0_pay4 x2 x5 x6)
    = Ideal.ofBits .f32 0x3F000000#32 * ∑ r, (brow x0 x1 x2 x3 x4 x5 x6 x7 x8 r).loss := by
  unfold Row.loss mean
  simp only [← pay_err]
  unfold k0_pay9
  generalize k0_pay8 (k0_pay3 x0 x1) x3 x4 x7 x8 (k0_pay4 x2 x5 x6) = e
  pointwise []
  simp only [Finset.univ_unique, Finset.sum_singleton]

theorem pay_out : k0_pay10 (k0_pay3 x0 x1) x3 x4 x7 x8 (k0_pay4 x2 x5 x6) (ix2 r l) = (brow x0 x1 x2 x3 x4 x5 x6 x7 x8 r).out l := by
  unfold Row.out
  rw [← pay_err]
  unfold k0_pay10
  generalize k0_pay8 (k0_pay3 x0 x1) x3 x4 x7 x8 (k0_pay4 x2 x5 x6) = e
  pointwise []

theorem pay_inner : k0_pay11 (k0_pay3 x0 x1) x3 x4 x7 x8 (k0_pay4 x2 x5 x6) (ix2 r l) = (brow x0 x1 x2 x3 x4 x5 x6 x7 x8 r).inner l := by
  unfold Row.inner
  rw [← pay_out]
  unfold k0_pay11 brow
  generalize k0_pay10 (k0_pay3 x0 x1) x3 x4 x7 x8 (k0_pay4 x2 x5 x6) = e
  pointwise []

/-- The block of the gradient with respect to the residual sum. -/
theorem pay_grad : k0_pay14 (k0_pay6 (k0_pay3 x0 x1) x4 (k0_pay4 x2 x5 x6)) (k0_pay7 (k0_pay3 x0 x1) x4 (k0_pay4 x2 x5 x6))
      (k0_pay12 (k0_pay3 x0 x1) x3 x4 x7 x8 (k0_pay4 x2 x5 x6)) (k0_pay13 (k0_pay3 x0 x1) x3 x4 x7 x8 (k0_pay4 x2 x5 x6)) (ix2 r l)
    = grad (brow x0 x1 x2 x3 x4 x5 x6 x7 x8 r).sum (brow x0 x1 x2 x3 x4 x5 x6 x7 x8 r).inner l := by
  unfold grad mean
  simp only [← pay_normed, ← pay_inner, ← pay_scale _ _ _ _ _ _ _ _ _ _ 0]
  unfold k0_pay12 k0_pay13
  generalize k0_pay11 (k0_pay3 x0 x1) x3 x4 x7 x8 (k0_pay4 x2 x5 x6) = q
  generalize k0_pay7 (k0_pay3 x0 x1) x4 (k0_pay4 x2 x5 x6) = n
  generalize k0_pay6 (k0_pay3 x0 x1) x4 (k0_pay4 x2 x5 x6) = s
  pointwise [k0_pay14]

/-- What a point adds to the gradient of the norm's gain. -/
theorem pay_gain (xo : Vec Ideal S1x1024 .f32) : k0_pay22 (k0_pay7 (k0_pay3 x0 x1) x4 (k0_pay4 x2 x5 x6))
      (k0_pay10 (k0_pay3 x0 x1) x3 x4 x7 x8 (k0_pay4 x2 x5 x6)) xo (ix2 0 l)
    = xo (ix2 0 l) + ∑ r, (brow x0 x1 x2 x3 x4 x5 x6 x7 x8 r).out l * normed (brow x0 x1 x2 x3 x4 x5 x6 x7 x8 r).sum l := by
  simp only [← pay_out, ← pay_normed]
  generalize k0_pay10 (k0_pay3 x0 x1) x3 x4 x7 x8 (k0_pay4 x2 x5 x6) = e
  generalize k0_pay7 (k0_pay3 x0 x1) x4 (k0_pay4 x2 x5 x6) = n
  pointwise [k0_pay22]

/-- What a point adds to the gradient of the norm's offset. -/
theorem pay_offset (xo : Vec Ideal S1x1024 .f32) : k0_pay23 (k0_pay10 (k0_pay3 x0 x1) x3 x4 x7 x8 (k0_pay4 x2 x5 x6)) xo (ix2 0 l)
    = xo (ix2 0 l) + ∑ r, (brow x0 x1 x2 x3 x4 x5 x6 x7 x8 r).out l := by
  simp only [← pay_out]
  generalize k0_pay10 (k0_pay3 x0 x1) x3 x4 x7 x8 (k0_pay4 x2 x5 x6) = e
  pointwise [k0_pay23]

/-- What a point adds to the gradient of the gate. -/
theorem pay_gate (xo : Vec Ideal S1x1024 .f32) : k0_pay1 (k0_pay15 (k0_pay3 x0 x1) (k0_pay6 (k0_pay3 x0 x1) x4 (k0_pay4 x2 x5 x6))
      (k0_pay7 (k0_pay3 x0 x1) x4 (k0_pay4 x2 x5 x6)) (k0_pay12 (k0_pay3 x0 x1) x3 x4 x7 x8 (k0_pay4 x2 x5 x6))
      (k0_pay13 (k0_pay3 x0 x1) x3 x4 x7 x8 (k0_pay4 x2 x5 x6))) xo (ix2 0 l)
    = xo (ix2 0 l) + ∑ r, grad (brow x0 x1 x2 x3 x4 x5 x6 x7 x8 r).sum (brow x0 x1 x2 x3 x4 x5 x6 x7 x8 r).inner l
        * (brow x0 x1 x2 x3 x4 x5 x6 x7 x8 r).prod l := by
  simp only [← pay_grad, ← pay_prod]
  unfold k0_pay15
  generalize k0_pay14 (F := Ideal) _ _ _ _ = g
  generalize k0_pay3 x0 x1 = p
  pointwise [k0_pay1]

/-- What a point adds to the loss. -/
theorem pay_total (xo : Vec Ideal S1x128 .f32) (y : Fin 128) : k0_pay2 (k0_pay16 (k0_pay9 (k0_pay3 x0 x1) x3 x4 x7 x8 (k0_pay4 x2 x5 x6))) xo (ix2 0 y)
    = xo (ix2 0 y) + ∑ r, Ideal.ofBits .f32 0x3F000000#32 * (brow x0 x1 x2 x3 x4 x5 x6 x7 x8 r).loss := by
  rw [← half_sum, ← pay_loss]
  generalize k0_pay9 (k0_pay3 x0 x1) x3 x4 x7 x8 (k0_pay4 x2 x5 x6) = e
  pointwise [k0_pay2, k0_pay16]

/-- The block of the gradient with respect to the product. -/
theorem pay_scaled : k0_pay17 x4 (k0_pay6 (k0_pay3 x0 x1) x4 (k0_pay4 x2 x5 x6)) (k0_pay7 (k0_pay3 x0 x1) x4 (k0_pay4 x2 x5 x6))
      (k0_pay12 (k0_pay3 x0 x1) x3 x4 x7 x8 (k0_pay4 x2 x5 x6)) (k0_pay13 (k0_pay3 x0 x1) x3 x4 x7 x8 (k0_pay4 x2 x5 x6)) (ix2 r l)
    = (brow x0 x1 x2 x3 x4 x5 x6 x7 x8 r).open1 l
        * grad (brow x0 x1 x2 x3 x4 x5 x6 x7 x8 r).sum (brow x0 x1 x2 x3 x4 x5 x6 x7 x8 r).inner l := by
  rw [← pay_grad]
  unfold k0_pay17 Row.open1 brow
  generalize k0_pay14 (F := Ideal) _ _ _ _ = g
  pointwise []

theorem pay_zeros : (k0_pay18 : FVec Ideal S1x1024 .f32) (ix2 0 l) = 0 ∧ (k0_pay19 : FVec Ideal S1x1024 .f32) (ix2 0 l) = 0
    ∧ (k0_pay20 : FVec Ideal S1x1024 .f32) (ix2 0 l) = 0 := by
  refine ⟨?_, ?_, ?_⟩
  all_goals pointwise [k0_pay18, k0_pay19, k0_pay20]

theorem pay_zero (y : Fin 128) : (k0_pay21 : FVec Ideal S1x128 .f32) (ix2 0 y) = 0 := by
  pointwise [k0_pay21]

end pay

/-! ## The reference -/

/-- Row `R` of the whole arrays. -/
def arow (x0 : Vec Ideal S4096x4096 .bf16) (x1 : Vec Ideal S4096x1024 .bf16) (x2 x3 : Vec Ideal S4096x1024 .f32)
    (x4 x5 x6 x7 x8 : Vec Ideal S1x1024 .f32) (R : Fin 4096) : Row :=
  ⟨fun k => x0 (ix2 R k), fun k l => x1 (ix2 k l), fun l => x2 (ix2 R l), fun l => x3 (ix2 R l), fun l => x4 (ix2 0 l), fun l => x5 (ix2 0 l),
    fun l => x6 (ix2 0 l), fun l => x7 (ix2 0 l), fun l => x8 (ix2 0 l)⟩

/-- The derivative of half the mean of squares is the entry's part of the row. -/
theorem part_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [ofBits_half, ofBits_one, ofBits_width, ofBits_two, ofBits_part, Ideal.div_coe (by norm_num), ← mul_assoc, mul_comm e, ← EReal.coe_mul,
    ← EReal.coe_mul, ← EReal.coe_mul]
  congr 2
  norm_num

section reference
open Cert.Reference9Ideal.Read

variable (x0 : Vec Ideal S4096x4096 .bf16) (x1 : Vec Ideal S4096x1024 .bf16) (x2 x3 : Vec Ideal S4096x1024 .f32)
  (x4 x5 x6 x7 x8 : Vec Ideal S1x1024 .f32) (R : Fin 4096) (l : Fin 1024)

theorem ref_prod : val_main_v26 (F := Ideal) x0 x1 (ix2 R l) = (arow x0 x1 x2 x3 x4 x5 x6 x7 x8 R).prod l := by
  unfold Row.prod arow
  pointwise [val_main_v26, val_main_v25, val_main_v24]

theorem ref_base : val_main_v23 (F := Ideal) x2 x5 x6 (ix2 R l) = (arow x0 x1 x2 x3 x4 x5 x6 x7 x8 R).base l := by
  unfold Row.base normed scale spread mean arow
  pointwise [val_main_v23, val_main_v22, val_main_cst_4, val_main_v21, val_main_v20, val_main_v19, val_main_v18, val_main_v17, val_main_v16,
    val_main_v15, val_main_v14, val_main_v13, val_main_cst_3, val_main_v12, val_main_v11, val_main_v10, val_main_v9, val_main_cst_2,
    val_main_v8, val_main_v7, val_main_cst_1, val_main_v6, val_main_v5, val_main_v4, val_main_v3, val_main_v2, val_main_cst_0, val_main_v1,
    val_main_v0, val_main_cst]

theorem ref_open (z : Fin 1) : val_main_v28 (F := Ideal) x4 (ix2 z l) = (arow x0 x1 x2 x3 x4 x5 x6 x7 x8 R).open1 l := by
  obtain rfl : z = 0 := Subsingleton.elim _ _
  unfold Row.open1 arow
  pointwise [val_main_v28, val_main_v27, val_main_cst_5]

theorem ref_sum : val_main_v31 (F := Ideal) x0 x1 x2 x4 x5 x6 (ix2 R l) = (arow x0 x1 x2 x3 x4 x5 x6 x7 x8 R).sum l := by
  unfold Row.sum
  rw [← ref_prod, ← ref_base, ← ref_open _ _ _ _ _ _ _ _ _ _ _ 0]
  pointwise [val_main_v31, val_main_v30, val_main_v29]

theorem ref_mean (z : Fin 1) : val_main_v35 (F := Ideal) x0 x1 x2 x4 x5 x6 (ix2 R z) = mean (arow x0 x1 x2 x3 x4 x5 x6 x7 x8 R).sum := by
  unfold mean
  simp only [← ref_sum]
  pointwise [val_main_v35, val_main_v34, val_main_cst_7, val_main_v33, val_main_v32, val_main_cst_6]

theorem ref_about : val_main_v37 (F := Ideal) x0 x1 x2 x4 x5 x6 (ix2 R l)
    = (arow x0 x1 x2 x3 x4 x5 x6 x7 x8 R).sum l - mean (arow x0 x1 x2 x3 x4 x5 x6 x7 x8 R).sum := by
  rw [← ref_mean _ _ _ _ _ _ _ _ _ _ 0, ← ref_sum]
  pointwise [val_main_v37, val_main_v36]

theorem ref_about' : val_main_v46 (F := Ideal) x0 x1 x2 x4 x5 x6 (ix2 R l)
    = (arow x0 x1 x2 x3 x4 x5 x6 x7 x8 R).sum l - mean (arow x0 x1 x2 x3 x4 x5 x6 x7 x8 R).sum := by
  rw [← ref_mean _ _ _ _ _ _ _ _ _ _ 0, ← ref_sum]
  pointwise [val_main_v46, val_main_v45]

theorem ref_spread (z : Fin 1) : val_main_v48 (F := Ideal) x0 x1 x2 x4 x5 x6 (ix2 R z) = spread (arow x0 x1 x2 x3 x4 x5 x6 x7 x8 R).sum := by
  unfold spread
  simp only [← ref_about]
  pointwise [val_main_v48, val_main_v47, val_main_cst_11, val_main_v44, val_main_v43, val_main_cst_10, val_main_v42, val_main_v41,
    val_main_cst_9, val_main_v38]

theorem ref_scale (z : Fin 1) : val_main_v49 (F := Ideal) x0 x1 x2 x4 x5 x6 (ix2 R z) = scale (arow x0 x1 x2 x3 x4 x5 x6 x7 x8 R).sum := by
  unfold scale
  rw [← ref_spread _ _ _ _ _ _ _ _ _ _ z]
  pointwise [val_main_v49]

theorem ref_normed : val_main_v54 (F := Ideal) x0 x1 x2 x4 x5 x6 (ix2 R l) = normed (arow x0 x1 x2 x3 x4 x5 x6 x7 x8 R).sum l := by
  unfold normed
  rw [← ref_about', ← ref_scale _ _ _ _ _ _ _ _ _ _ 0]
  pointwise [val_main_v54, val_main_v53]

theorem ref_err : val_main_v59 (F := Ideal) x0 x1 x2 x3 x4 x5 x6 x7 x8 (ix2 R l) = (arow x0 x1 x2 x3 x4 x5 x6 x7 x8 R).err l := by
  unfold Row.err
  rw [← ref_normed]
  unfold arow
  pointwise [val_main_v59, val_main_v58, val_main_v57, val_main_v56, val_main_v55]

theorem ref_loss (z : Fin 1) (y : Fin 128) : val_main_v111 (F := Ideal) x0 x1 x2 x3 x4 x5 x6 x7 x8 (ix2 z y)
    = Ideal.ofBits .f32 0x3F000000#32 * ∑ R, (arow x0 x1 x2 x3 x4 x5 x6 x7 x8 R).loss := by
  unfold Row.loss mean
  simp only [← ref_err]
  pointwise [val_main_v111, val_main_v67, val_main_cst_17, val_main_v66, val_main_cst_16, val_main_v65, val_main_v64, val_main_cst_15,
    val_main_v63, val_main_cst_14, val_main_v60]

theorem ref_out : val_main_v73 (F := Ideal) x0 x1 x2 x3 x4 x5 x6 x7 x8 (ix2 R l) = (arow x0 x1 x2 x3 x4 x5 x6 x7 x8 R).out l := by
  unfold Row.out
  rw [← ref_err, ← part_eq]
  pointwise [val_main_v73, val_main_v72, val_main_v71, val_main_v70, val_main_cst_20, val_main_v69, val_main_v68, val_main_cst_19,
    val_main_cst_18, val_main_v62, val_main_v61, val_main_cst_13]

theorem ref_inner : val_main_v80 (F := Ideal) x0 x1 x2 x3 x4 x5 x6 x7 x8 (ix2 R l) = (arow x0 x1 x2 x3 x4 x5 x6 x7 x8 R).inner l := by
  unfold Row.inner
  rw [← ref_out]
  unfold arow
  pointwise [val_main_v80, val_main_v79]

/-- The part of the gradient through the spread. -/
theorem ref_viaScale : val_main_v94 (F := Ideal) x0 x1 x2 x3 x4 x5 x6 x7 x8 (ix2 R l)
    = viaScale (arow x0 x1 x2 x3 x4 x5 x6 x7 x8 R).sum (arow x0 x1 x2 x3 x4 x5 x6 x7 x8 R).inner l := by
  unfold viaScale
  rw [← ref_spread _ _ _ _ _ _ _ _ _ _ 0, ← ref_scale _ _ _ _ _ _ _ _ _ _ 0]
  simp only [← ref_inner]
  have e : (fun k => val_main_v46 (F := Ideal) x0 x1 x2 x4 x5 x6 (ix2 R k)) = fun k => val_main_v37 (F := Ideal) x0 x1 x2 x4 x5 x6 (ix2 R k) :=
    funext fun k => (ref_about' x0 x1 x2 x3 x4 x5 x6 x7 x8 R k).trans (ref_about ..).symm
  simp only [← ref_about, ← congrFun e]
  pointwise [val_main_v94, val_main_v93, val_main_v92, val_main_cst_26, val_main_v91, val_main_v90, val_main_cst_25, val_main_v86, val_main_v83,
    val_main_v82, val_main_cst_23, val_main_v81, val_main_v52, val_main_v51, val_main_cst_12, val_main_v50, val_main_v40, val_main_v39,
    val_main_cst_8]
  rw [congrFun e l]
  simp only [Finset.univ_unique, Finset.sum_singleton, Fin.default_eq_zero]

/-- The gradient with respect to the residual sum, as the reference takes it. -/
theorem ref_steps : val_main_v104 (F := Ideal) x0 x1 x2 x3 x4 x5 x6 x7 x8 (ix2 R l)
    = gradSteps (arow x0 x1 x2 x3 x4 x5 x6 x7 x8 R).sum (arow x0 x1 x2 x3 x4 x5 x6 x7 x8 R).inner l := by
  unfold gradSteps viaMean
  simp only [← ref_viaScale, ← ref_inner, ← ref_scale _ _ _ _ _ _ _ _ _ _ 0]
  pointwise [val_main_v104, val_main_v103, val_main_v102, val_main_cst_29, val_main_v101, val_main_v100, val_main_cst_28, val_main_v99,
    val_main_v98, val_main_v97, val_main_v96, val_main_cst_27, val_main_v95, val_main_v89, val_main_v88, val_main_cst_24, val_main_v87,
    val_main_v85, val_main_v84]
  simp only [Finset.univ_unique, Finset.sum_singleton, Fin.default_eq_zero]

theorem ref_gain : val_main_v78 (F := Ideal) x0 x1 x2 x3 x4 x5 x6 x7 x8 (ix2 0 l)
    = ∑ R, (arow x0 x1 x2 x3 x4 x5 x6 x7 x8 R).out l * normed (arow x0 x1 x2 x3 x4 x5 x6 x7 x8 R).sum l := by
  simp only [← ref_out, ← ref_normed]
  pointwise [val_main_v78, val_main_v77, val_main_cst_22, val_main_v76]
  exact Finset.sum_congr rfl fun R _ => mul_comm (G := EReal) _ _

theorem ref_offset : val_main_v75 (F := Ideal) x0 x1 x2 x3 x4 x5 x6 x7 x8 (ix2 0 l) = ∑ R, (arow x0 x1 x2 x3 x4 x5 x6 x7 x8 R).out l := by
  simp only [← ref_out]
  pointwise [val_main_v75, val_main_v74, val_main_cst_21]

theorem ref_gate (h : ∀ R, (arow x0 x1 x2 x3 x4 x5 x6 x7 x8 R).IsReal) : val_main_v109 (F := Ideal) x0 x1 x2 x3 x4 x5 x6 x7 x8 (ix2 0 l)
    = ∑ R, grad (arow x0 x1 x2 x3 x4 x5 x6 x7 x8 R).sum (arow x0 x1 x2 x3 x4 x5 x6 x7 x8 R).inner l * (arow x0 x1 x2 x3 x4 x5 x6 x7 x8 R).prod l := by
  simp only [← (h _).steps, ← ref_steps, ← ref_prod]
  pointwise [val_main_v109, val_main_v108, val_main_cst_30, val_main_v107]

theorem ref_scaled : val_main_v110 (F := Ideal) x0 x1 x2 x3 x4 x5 x6 x7 x8 (ix2 R l) = (arow x0 x1 x2 x3 x4 x5 x6 x7 x8 R).open1 l
    * gradSteps (arow x0 x1 x2 x3 x4 x5 x6 x7 x8 R).sum (arow x0 x1 x2 x3 x4 x5 x6 x7 x8 R).inner l := by
  rw [← ref_steps, ← ref_open _ _ _ _ _ _ _ _ _ _ _ 0]
  pointwise [val_main_v110, val_main_v106, val_main_v105]

end reference

/-! ## The whole arrays -/

instance preFacts : Cert.Pre_finite9.Facts where
  bitsLt_bf16_f32 := by decide
  bcast_S_S4096x4096 := by decide
  bcast_S_S4096x1024 := by decide
  bcast_S_S1x1024 := by decide

variable (m : (ℓ : Loc nD τ sig) → Buf (Elt Ideal) ℓ)

/-- Row `R` of the arguments. -/
def rowAt (c : Dev nD) (R : Fin 4096) : Row := arow (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) R

theorem finite_rows (h : Cert.Pre_Kernel9Ideal_finite9 m) (c : Dev nD) (R : Fin 4096) : (rowAt m c R).IsReal where
  act _ := finite_of_below (h c).1 _
  weight _ _ := finite_of_below (h c).2.1 _
  skip _ := finite_of_below (h c).2.2.1 _
  target _ := finite_of_below (h c).2.2.2.1 _
  gate _ := finite_of_below (h c).2.2.2.2.1 _
  gain1 _ := finite_of_below (h c).2.2.2.2.2.1 _
  offset1 _ := finite_of_below (h c).2.2.2.2.2.2.1 _
  gain2 _ := finite_of_below (h c).2.2.2.2.2.2.2.1 _
  offset2 _ := finite_of_below (h c).2.2.2.2.2.2.2.2 _

/-- Bands of 512 rows; the weight, the row vectors and the four gathered results stay in place. -/
theorem index (t : Fin cfg0.N) : win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![0, 0]
    ∧ win0_12.index t = ![0, 0] ∧ win0_13.index t = ![0, 0] ∧ win0_14.index t = ![0, 0] := by
  revert t; decide +kernel

/-- A row of a grid point's blocks is a row of the arguments. -/
theorem blocks (c : Dev nD) (t : Fin cfg0.N) (r : Fin 512) : brow (iblk m c 0 t) (iblk m c 1 t) (iblk m c 2 t) (iblk m c 3 t) (iblk m c 4 t)
    (iblk m c 5 t) (iblk m c 6 t) (iblk m c 7 t) (iblk m c 8 t) r = rowAt m c (row t r) := by
  unfold brow rowAt arow
  congr 1
  · funext k; blk_ext [iblk, index t, V_main_arg0, row]
  · funext k l; blk_ext [iblk, index t, V_main_arg1]
  · funext l; blk_ext [iblk, index t, V_main_arg2, row]
  · funext l; blk_ext [iblk, index t, V_main_arg3, row]
  · funext l; blk_ext [iblk, index t, V_main_arg4]
  · funext l; blk_ext [iblk, index t, V_main_arg5]
  · funext l; blk_ext [iblk, index t, V_main_arg6]
  · funext l; blk_ext [iblk, index t, V_main_arg7]
  · funext l; blk_ext [iblk, index t, V_main_arg8]

/-- What row `R` adds to each of the four gathered results. -/
def parts (c : Dev nD) (l : Fin 1024) (R : Fin 4096) : EReal × EReal × EReal × EReal :=
  ((rowAt m c R).out l * normed (rowAt m c R).sum l, (rowAt m c R).out l,
    grad (rowAt m c R).sum (rowAt m c R).inner l * (rowAt m c R).prod l, Ideal.ofBits .f32 0x3F000000#32 * (rowAt m c R).loss)

/-- The first point starts the four results with its own rows. -/
theorem start (c : Dev nD) (l : Fin 1024) (y : Fin 128) (t : Fin cfg0.N) (h : t.val % 8 = 0) :
    (outsAt0 m c t.val t.isLt).2.2.1 (ix2 0 l) = ∑ r, (parts m c l (row t r)).1
    ∧ (outsAt0 m c t.val t.isLt).2.2.2.1 (ix2 0 l) = ∑ r, (parts m c l (row t r)).2.1
    ∧ (outsAt0 m c t.val t.isLt).2.2.2.2.1 (ix2 0 l) = ∑ r, (parts m c l (row t r)).2.2.1
    ∧ (outsAt0 m c t.val t.isLt).2.2.2.2.2 (ix2 0 y) = ∑ r, (parts m c l (row t r)).2.2.2 := by
  unfold parts
  simp only [← blocks]
  rw [outsAt0_A m c t h]
  refine ⟨?_, ?_, ?_, ?_⟩
  · frame_out; rw [pay_gain, (pay_zeros l).1, zero_add]
  · frame_out; rw [pay_offset (x0 := iblk m c 0 t), (pay_zeros l).2.1, zero_add]
  · frame_out; rw [pay_gate, (pay_zeros l).2.2, zero_add]
  · frame_out; rw [pay_total, pay_zero, zero_add]

/-- A later point adds its own rows. -/
theorem step (c : Dev nD) (l : Fin 1024) (y : Fin 128) (t : Fin cfg0.N) (h : ¬t.val % 8 = 0) :
    let o := outsAt0 m c (t.val - 1) (Nat.lt_of_le_of_lt (Nat.sub_le _ _) t.isLt)
    (outsAt0 m c t.val t.isLt).2.2.1 (ix2 0 l) = o.2.2.1 (ix2 0 l) + ∑ r, (parts m c l (row t r)).1
    ∧ (outsAt0 m c t.val t.isLt).2.2.2.1 (ix2 0 l) = o.2.2.2.1 (ix2 0 l) + ∑ r, (parts m c l (row t r)).2.1
    ∧ (outsAt0 m c t.val t.isLt).2.2.2.2.1 (ix2 0 l) = o.2.2.2.2.1 (ix2 0 l) + ∑ r, (parts m c l (row t r)).2.2.1
    ∧ (outsAt0 m c t.val t.isLt).2.2.2.2.2 (ix2 0 y) = o.2.2.2.2.2 (ix2 0 y) + ∑ r, (parts m c l (row t r)).2.2.2 := by
  unfold parts
  simp only [← blocks]
  rw [outsAt0_B m c t h]
  refine ⟨?_, ?_, ?_, ?_⟩
  · frame_out; exact pay_gain ..
  · frame_out; exact pay_offset ..
  · frame_out; exact pay_gate ..
  · frame_out; exact pay_total ..

/-- After the last point the four gathered results hold the sums over all the rows. -/
theorem sums (c : Dev nD) (l : Fin 1024) (y : Fin 128) (t : Fin cfg0.N) (h : t.val % 8 = 7) :
    (outsAt0 m c t.val t.isLt).2.2.1 (ix2 0 l) = ∑ R, (parts m c l R).1
    ∧ (outsAt0 m c t.val t.isLt).2.2.2.1 (ix2 0 l) = ∑ R, (parts m c l R).2.1
    ∧ (outsAt0 m c t.val t.isLt).2.2.2.2.1 (ix2 0 l) = ∑ R, (parts m c l R).2.2.1
    ∧ (outsAt0 m c t.val t.isLt).2.2.2.2.2 (ix2 0 y) = ∑ R, (parts m c l R).2.2.2 :=
  have a := fun t h => start m c l y t h
  have b := fun t h => step m c l y t h
  ⟨gathered (fun n h => (outsAt0 m c n h).2.2.1 (ix2 0 l)) (fun R => (parts m c l R).1) (fun t h => (a t h).1) (fun t h => (b t h).1) t h,
    gathered (fun n h => (outsAt0 m c n h).2.2.2.1 (ix2 0 l)) (fun R => (parts m c l R).2.1) (fun t h => (a t h).2.1) (fun t h => (b t h).2.1) t h,
    gathered (fun n h => (outsAt0 m c n h).2.2.2.2.1 (ix2 0 l)) (fun R => (parts m c l R).2.2.1) (fun t h => (a t h).2.2.1) (fun t h => (b t h).2.2.1) t h,
    gathered (fun n h => (outsAt0 m c n h).2.2.2.2.2 (ix2 0 y)) (fun R => (parts m c l R).2.2.2) (fun t h => (a t h).2.2.2) (fun t h => (b t h).2.2.2) t h⟩

/-- An array of the reference, taken at the kernel's arguments. -/
def atArgs {α : Type} (c : Dev nD) (f : Vec Ideal S4096x4096 .bf16 → Vec Ideal S4096x1024 .bf16 → Vec Ideal S4096x1024 .f32 → Vec Ideal S4096x1024 .f32
    → Vec Ideal S1x1024 .f32 → Vec Ideal S1x1024 .f32 → Vec Ideal S1x1024 .f32 → Vec Ideal S1x1024 .f32 → Vec Ideal S1x1024 .f32 → α) : α :=
  f (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

open Cert.Reference9Ideal.Read

/-- The two results that are bands of rows. -/
theorem bands_eq (h : Cert.Pre_Kernel9Ideal_finite9 m) (c : Dev nD) :
    (dats m 0 c).arrAt 9 cfg0.N = atArgs m c (val_main_v104 (F := Ideal)) ∧ (dats m 0 c).arrAt 10 cfg0.N = atArgs m c (val_main_v110 (F := Ideal)) := by
  refine ⟨(dats m 0 c).arrAt_eq_of_covers 9 _ (by decide +kernel) fun t _ y => ?_,
    (dats m 0 c).arrAt_eq_of_covers 10 _ (by decide +kernel) fun t _ y => ?_⟩
  all_goals
    blk_simp
    obtain ⟨r, l, rfl⟩ : ∃ (r : Fin 512) (l : Fin 1024), y = ix2 r l := ⟨y 0, y 1, eq_ix2 y⟩
    refine Eq.trans ?_ (congrArg _ (show _ = ix2 (row t r) l by blk_ext [index t, row])).symm
    have hs := (finite_rows m h c (row t r)).steps l
  · rw [after0_9]
    refine Eq.trans ?_ (ref_steps ..).symm
    refine Eq.trans ?_ hs.symm
    rw [← blocks, ← pay_grad]
    by_cases h0 : t.val % 8 = 0
    · rw [outsAt0_A m c t h0]; frame_out
    · rw [outsAt0_B m c t h0]; frame_out
  · rw [after0_10]
    refine Eq.trans ?_ (ref_scaled ..).symm
    refine Eq.trans ?_ (congrArg ((rowAt m c (row t r)).open1 l * ·) hs.symm)
    beta_reduce
    rw [← blocks, ← pay_scaled]
    by_cases h0 : t.val % 8 = 0
    · rw [outsAt0_A m c t h0]; frame_out
    · rw [outsAt0_B m c t h0]; frame_out

/-- The gathered results that are row vectors. -/
theorem vectors_eq (h : Cert.Pre_Kernel9Ideal_finite9 m) (c : Dev nD) :
    (dats m 0 c).arrAt 11 cfg0.N = atArgs m c (val_main_v78 (F := Ideal)) ∧ (dats m 0 c).arrAt 12 cfg0.N = atArgs m c (val_main_v75 (F := Ideal))
    ∧ (dats m 0 c).arrAt 13 cfg0.N = atArgs m c (val_main_v109 (F := Ideal)) := by
  refine ⟨(dats m 0 c).arrAt_eq_of_covers 11 _ (by decide +kernel) fun t hf y => ?_,
    (dats m 0 c).arrAt_eq_of_covers 12 _ (by decide +kernel) fun t hf y => ?_,
    (dats m 0 c).arrAt_eq_of_covers 13 _ (by decide +kernel) fun t hf y => ?_⟩
  all_goals
    blk_simp
    obtain ⟨z, l, rfl⟩ : ∃ (z : Fin 1) (l : Fin 1024), y = ix2 z l := ⟨y 0, y 1, eq_ix2 y⟩
    obtain rfl : z = 0 := Subsingleton.elim _ _
    refine Eq.trans ?_ (congrArg _ (show _ = ix2 0 l by blk_ext [index t])).symm
  · rw [after0_11]
    exact (sums m c l 0 t ((flush0_11 t).mp hf)).1.trans (ref_gain ..).symm
  · rw [after0_12]
    exact (sums m c l 0 t ((flush0_12 t).mp hf)).2.1.trans (ref_offset ..).symm
  · rw [after0_13]
    exact (sums m c l 0 t ((flush0_13 t).mp hf)).2.2.1.trans (ref_gate _ _ _ _ _ _ _ _ _ l (finite_rows m h c)).symm

/-- The loss. -/
theorem loss_eq (c : Dev nD) : (dats m 0 c).arrAt 14 cfg0.N = atArgs m c (val_main_v111 (F := Ideal)) := by
  refine (dats m 0 c).arrAt_eq_of_covers 14 _ (by decide +kernel) fun t hf y => ?_
  blk_simp
  obtain ⟨z, y, rfl⟩ : ∃ (z : Fin 1) (l : Fin 128), y = ix2 z l := ⟨y 0, y 1, eq_ix2 y⟩
  obtain rfl : z = 0 := Subsingleton.elim _ _
  refine Eq.trans ?_ (congrArg _ (show _ = ix2 0 y by blk_ext [index t])).symm
  rw [after0_14]
  exact (sums m c 0 y t ((flush0_14 t).mp hf)).2.2.2.trans ((half_sum _ _).symm.trans (ref_loss _ _ _ _ _ _ _ _ _ 0 y).symm)

/-- From finite arguments, kernel and reference end with the same six arrays. -/
theorem algebraic : Cert.algebraic_Kernel9Ideal_Reference9Ideal_pre_finite9 := fun m g m' g' hpre hargs =>
  ⟨_, _, _, _, _, _, (θ_run _ _ _).mono (fun _ h c =>
      ⟨(h c).1.trans (bands_eq m hpre c).1, (h c).2.1.trans (bands_eq m hpre c).2, (h c).2.2.1.trans (vectors_eq m hpre c).1,
        (h c).2.2.2.1.trans (vectors_eq m hpre c).2.1, (h c).2.2.2.2.1.trans (vectors_eq m hpre c).2.2,
        (h c).2.2.2.2.2.1.trans (loss_eq m c), (h c).2.2.2.2.2.2⟩) (Value.run_blocks m g),
    (θ_run _ _ _).mono (fun _ h c => by
      obtain ⟨a0, a1, a2, a3, a4, a5, a6, a7, a8⟩ := hargs c
      unfold atArgs
      beta_reduce
      rw [← a0, ← a1, ← a2, ← a3, ← a4, ← a5, ← a6, ← a7, ← a8]
      exact ⟨(h c).1.trans (val_main_v104_eq ..), (h c).2.1.trans (val_main_v110_eq ..), (h c).2.2.1.trans (val_main_v78_eq ..),
        (h c).2.2.2.1.trans (val_main_v75_eq ..), (h c).2.2.2.2.1.trans (val_main_v109_eq ..), (h c).2.2.2.2.2.1.trans (val_main_v111_eq ..),
        (h c).2.2.2.2.2.2⟩) (Cert.Reference9Ideal.Value.run m' g')⟩

end Cert.Head

end
-- ==== Proof.DwOut.lean ====
/-
  The weight gradient of the mixer's output projection.  One grid point contracts all 4096 rows of its block of 512
  columns of the mixed heads with the incoming gradient; the plainly written gradient is the same sums, read in slabs.
-/
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DwOut

open Cert.Kernel10Ideal Cert.Kernel10Ideal.Gen

variable (m : (ℓ : Loc nD τ sig) → Buf (Elt Ideal) ℓ)

/-- The blocks of a grid point: a band of the first operand's columns, the whole second operand, a slab of the result. -/
theorem index (t : Fin cfg0.N) : win0_0.index t = ![0, t.val] ∧ win0_1.index t = ![0, 0] ∧ win0_2.index t = ![t.val, 0, 0] := by
  revert t; decide +kernel

/-- The array the kernel leaves is the array the reference leaves: slab `t` holds the rows `512 t …` of the product. -/
theorem value_eq (c : Dev nD) : (dats m 0 c).arrAt 2 cfg0.N
    = Cert.Reference10Ideal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  have hN : t.val < 4 := t.isLt
  obtain ⟨a, r, j, rfl⟩ : ∃ (a : Fin 1) (r : Fin 512) (j : Fin 1024), y = ix3 a r j := ⟨y 0, y 1, y 2, eq_ix3 y⟩
  have place : ((cfg0.win 2).blk t).view.emb (ix3 a r j) = ix3 (⟨t.val, hN⟩ : Fin 4) r j := by
    blk_ext [index t]
  refine Eq.trans ?_ (congrArg _ place).symm
  open Cert.Reference10Ideal.Read in
  pointwise [k0_pay1, val_main_v7, val_main_v6, val_main_v5, val_main_v4, val_main_v3, val_main_v1]
  refine Fin.sum_fin_congr fun k => (congrArg₂ (· * ·) ?_ ?_).trans (mul_comm (G := EReal) _ _)
  · blk_ext [iblk, index t, V_main_arg0]
  · blk_ext [iblk, index t, V_main_arg1]

/-- From any memory, kernel and reference end with the same array. -/
theorem algebraic : Cert.algebraic_Kernel10Ideal_Reference10Ideal := by
  pair_intro
  · run_from Value.run_blocks m g
  · run_from Cert.Reference10Ideal.Value.run m' g'
    rw [value_eq]
    exact (Cert.Reference10Ideal.Read.val_main_v7_eq (F := Ideal) _ _).symm

end Cert.DwOut

end
-- ==== Proof.DyMix.lean ====
/-
  The gradient of the mixed heads: the state-space half.  One grid point multiplies 1024 rows of the incoming gradient
  with the transposed first half of the output projection's weight.
-/
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DyMix

open Cert.Kernel11Ideal Cert.Kernel11Ideal.Gen

section
variable {F : FTy → Type} [FloatOps F] (m : (ℓ : Loc nD τ sig) → Buf (Elt F) ℓ)

/-- The second operand as the call finds it: the weight's first half. -/
theorem half_eq (c : Dev nD) : (V m c main_v0 : Vec F S1024x1024 .bf16) =
    extractStridedSlice S1024x1024 ![0, 0] (m ((c : Thread nD τ).loc main_arg1)) slices_S2048x1024_S1024x1024_0_0 := by
  unfold V
  after_results

end

variable (m : (ℓ : Loc nD τ sig) → Buf (Elt Ideal) ℓ)

/-- The blocks of a grid point: a band of rows of the gradient and of the result, and the whole half of the weight. -/
theorem index (t : Fin cfg0.N) : win0_0.index t = ![t.val, 0] ∧ win0_1.index t = ![0, 0] ∧ win0_2.index t = ![t.val, 0] := by
  revert t; decide +kernel

/-- The array the kernel leaves is the array the reference leaves. -/
theorem value_eq (c : Dev nD) : (dats m 0 c).arrAt 2 cfg0.N
    = Cert.Reference11Ideal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  have hN : t.val < 4 := t.isLt
  obtain ⟨r, j, rfl⟩ : ∃ (r j : Fin 1024), y = ix2 r j := ⟨y 0, y 1, eq_ix2 y⟩
  have place : ((cfg0.win 2).blk t).view.emb (ix2 r j) = ix2 (⟨t.val * 1024 + r.val, by omega⟩ : Fin 4096) j := by
    blk_ext [index t]
  refine Eq.trans ?_ (congrArg _ place).symm
  open Cert.Reference11Ideal.Read in
  pointwise [k0_pay1, val_main_v5, val_main_v4, val_main_v2, val_main_v1]
  refine Fin.sum_fin_congr fun k => congrArg₂ (· * ·) ?_ ?_
  · blk_ext [iblk, index t, V_main_arg0]
  · blk_simp [iblk]
    rw [half_eq, show (win0_1.blk t).view.emb (ix2 j k) = ix2 j k from by blk_ext [index t]]
    pointwise []

/-- From any memory, kernel and reference end with the same array. -/
theorem algebraic : Cert.algebraic_Kernel11Ideal_Reference11Ideal := by
  pair_intro
  · run_from Value.run_blocks m g
  · run_from Cert.Reference11Ideal.Value.run m' g'
    rw [value_eq]
    exact (Cert.Reference11Ideal.Read.val_main_v5_eq (F := Ideal) _ _).symm

end Cert.DyMix

end
-- ==== Proof.DwIn.lean ====
/-
  The weight gradient of the combined input projection, in the row order the step lays the weight out in.  One grid
  point contracts all 4096 tokens: 1152 columns of the projection's gradient against the modulated input.
-/
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.DwIn

open Cert.Kernel12Ideal Cert.Kernel12Ideal.Gen

section
variable {F : FTy → Type} [FloatOps F] (m : (ℓ : Loc nD τ sig) → Buf (Elt F) ℓ)

/-- The second operand as the call finds it: the modulated input. -/
theorem input_eq (c : Dev nD) : (V m c main_v6 : Vec F S4096x1024 .bf16) =
    truncf .bf16 (addf (mulf (m ((c : Thread nD τ).loc main_arg1)) (broadcastInDim S4096x1024 ![0, 1] bcast_S1x1024_S4096x1024_0_1
      (addf (broadcastInDim S1x1024 ![] bcast_S_S1x1024 (constant S_ .f32 0x3f800000#32)) (m ((c : Thread nD τ).loc main_arg2)))))
      (broadcastInDim S4096x1024 ![0, 1] bcast_S1x1024_S4096x1024_0_1 (m ((c : Thread nD τ).loc main_arg3)))) bitsLt_bf16_f32 := by
  unfold V
  after_results

end

variable (m : (ℓ : Loc nD τ sig) → Buf (Elt Ideal) ℓ)

/-- The blocks of a grid point: a band of the gradient's columns, the whole input, and a band of the result's rows. -/
theorem index (t : Fin cfg0.N) : win0_0.index t = ![0, t.val] ∧ win0_1.index t = ![0, 0] ∧ win0_2.index t = ![t.val, 0] := by
  revert t; decide +kernel

/-- The array the kernel leaves is the array the reference leaves. -/
theorem value_eq (c : Dev nD) : (dats m 0 c).arrAt 2 cfg0.N
    = Cert.Reference12Ideal.Read.val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  unfold outsAt0
  frame_out
  have hN : t.val < 5 := t.isLt
  obtain ⟨r, j, rfl⟩ : ∃ (r : Fin 1152) (j : Fin 1024), y = ix2 r j := ⟨y 0, y 1, eq_ix2 y⟩
  have place : ((cfg0.win 2).blk t).view.emb (ix2 r j) = ix2 (⟨t.val * 1152 + r.val, by omega⟩ : Fin 5760) j := by
    blk_ext [index t]
  refine Eq.trans ?_ (congrArg _ place).symm
  open Cert.Reference12Ideal.Read in
  pointwise [k0_pay1, val_main_v10, val_main_v9, val_main_v8, val_main_v6, val_main_v5, val_main_v4, val_main_v3, val_main_v2, val_main_v1, val_main_cst_0]
  refine Fin.sum_fin_congr fun k => congrArg₂ (· * ·) ?_ ?_
  · blk_ext [iblk, index t, V_main_arg0]
  · blk_simp [iblk]
    rw [input_eq, show (win0_1.blk t).view.emb (ix2 k j) = ix2 k j from by blk_ext [index t]]
    pointwise []

/-- From any memory, kernel and reference end with the same array. -/
theorem algebraic : Cert.algebraic_Kernel12Ideal_Reference12Ideal := by
  pair_intro
  · run_from Value.run_blocks m g
  · run_from Cert.Reference12Ideal.Value.run m' g'
    rw [value_eq]
    exact (Cert.Reference12Ideal.Read.val_main_v10_eq (F := Ideal) _ _ _ _).symm

end Cert.DwIn

end
-- ==== Proof.Proj.lean ====
/-
  The combined input projection, in the column order the step lays it out in.  One grid point multiplies 1024 rows of the
  modulated input with 1152 rows of the transposed weight.
-/
module

public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Proj

open Cert.Kernel13Ideal Cert.Kernel13Ideal.Gen

section
variable {F : FTy → Type} [FloatOps F] (m : (ℓ : Loc nD τ sig) → Buf (Elt F) ℓ)

/-- The modulated input, the first operand as the call finds it. -/
theorem input_eq (c : Dev nD) : (V m c main_v6 : Vec F S4096x1024 .bf16) =
    truncf .bf16 (addf (mulf (m ((c : Thread nD τ).loc main_arg0)) (broadcastInDim S4096x1024 ![0, 1] bcast_S1x1024_S4096x1024_0_1
      (addf (broadcastInDim S1x1024 ![] bcast_S_S1x1024 (constant S_ .f32 0x3f800000#32)) (m ((c : Thread nD τ).loc main_arg1)))))
      (broadcastInDim S4096x1024 ![0, 1] bcast_S1x1024_S4096x1024_0_1 (m ((c : Thread nD τ).loc main_arg2)))) bitsLt_bf16_f32 := by
  unfold V
  after_results

end

variable (m : (ℓ : Loc nD τ sig) → Buf (Elt Ideal) ℓ)

/-- The blocks of a grid point: one of the four bands of rows, and one of the five bands of columns. -/
theorem index (t : Fin cfg0.N) : win0_0.index t = ![t.val / 5, 0] ∧ win0_1.index t = ![t.val % 5, 0]
    ∧ win0_2.index t = ![t.val / 5, t.val % 5] := by
  revert t; decide +kernel

/-- The array the kernel leaves is the array the reference leaves. -/
theorem value_eq (c : Dev nD) : (dats m 0 c).arrAt 2 cfg0.N
    = Cert.Reference13Ideal.Read.val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  unfold outsAt0
  frame_out
  have hN : t.val < 20 := t.isLt
  obtain ⟨r, j, rfl⟩ : ∃ (r : Fin 1024) (j : Fin 1152), y = ix2 r j := ⟨y 0, y 1, eq_ix2 y⟩
  have place : ((cfg0.win 2).blk t).view.emb (ix2 r j)
      = ix2 (⟨t.val / 5 * 1024 + r.val, by omega⟩ : Fin 4096) (⟨t.val % 5 * 1152 + j.val, by omega⟩ : Fin 5760) := by
    blk_ext [index t]
  refine Eq.trans ?_ (congrArg _ place).symm
  open Cert.Reference13Ideal.Read in
  pointwise [k0_pay1, val_main_v7, val_main_v6, val_main_v5, val_main_v4, val_main_v3, val_main_v2, val_main_v1, val_main_v0, val_main_cst]
  refine Fin.sum_fin_congr fun k => congrArg₂ (· * ·) ?_ ?_
  · blk_simp [iblk]
    rw [input_eq, show (win0_0.blk t).view.emb (ix2 r k) = ix2 (⟨t.val / 5 * 1024 + r.val, by omega⟩ : Fin 4096) k from by blk_ext [index t]]
    pointwise []
  · blk_ext [iblk, index t, V_main_arg3]

/-- From any memory, kernel and reference end with the same array. -/
theorem algebraic : Cert.algebraic_Kernel13Ideal_Reference13Ideal := by
  pair_intro
  · run_from Value.run_blocks m g
  · run_from Cert.Reference13Ideal.Value.run m' g'
    rw [value_eq]
    exact (Cert.Reference13Ideal.Read.val_main_v7_eq (F := Ideal) _ _ _ _).symm

end Cert.Proj

end
-- ==== Proof.FfIn.lean ====
/-
  The feed-forward block's first product with the squared positive part.  One grid point multiplies 1024 rows of the
  modulated hidden state with 1024 columns of the weight and stores the squared positive part twice: in place, and
  transposed into the transposed place.
-/
module

public import proofs.«01_k».proof.Defs
public import proofs.«01_k».proof.Proof.Gen.Kernel14Ideal.Value
public import proofs.«01_k».proof.Proof.Gen.Reference14Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.FfIn

open Cert.Kernel14Ideal Cert.Kernel14Ideal.Gen

section
variable {F : FTy → Type} [FloatOps F] (m : (ℓ : Loc nD τ sig) → Buf (Elt F) ℓ)

/-- The first operand as the call finds it: the modulated hidden state. -/
theorem input_eq (c : Dev nD) : (V m c main_v6 : Vec F S4096x1024 .bf16) =
    truncf .bf16 (addf (mulf (m ((c : Thread nD τ).loc main_arg0)) (broadcastInDim S4096x1024 ![0, 1] bcast_S1x1024_S4096x1024_0_1
      (addf (broadcastInDim S1x1024 ![] bcast_S_S1x1024 (constant S_ .f32 0x3f800000#32)) (m ((c : Thread nD τ).loc main_arg1)))))
      (broadcastInDim S4096x1024 ![0, 1] bcast_S1x1024_S4096x1024_0_1 (m ((c : Thread nD τ).loc main_arg2)))) bitsLt_bf16_f32 := by
  unfold V
  after_results

end

variable (m : (ℓ : Loc nD τ sig) → Buf (Elt Ideal) ℓ)

/-- The squared positive part. -/
def square (u : EReal) : EReal := max u 0 * max u 0

/-- The blocks of a grid point: a band of the input's rows, a band of the weight's columns, the square where they meet, and
    the same square transposed. -/
theorem index (t : Fin cfg0.N) : win0_0.index t = ![t.val / 4, 0] ∧ win0_1.index t = ![0, t.val % 4]
    ∧ win0_2.index t = ![t.val / 4, t.val % 4] ∧ win0_3.index t = ![t.val % 4, t.val / 4] := by
  revert t; decide +kernel

/-- The two places of a grid point's entry `(r, j)`, one after the other. -/
def row (t : Fin cfg0.N) (r : Fin 1024) : Fin 4096 := ⟨t.val / 4 * 1024 + r.val, by have h : t.val < 16 := t.isLt; omega⟩
def col (t : Fin cfg0.N) (j : Fin 1024) : Fin 4096 := ⟨t.val % 4 * 1024 + j.val, by omega⟩

open Cert.Reference14Ideal.Read in
/-- The squared positive part of the blocks' product is the reference's activation at that place. -/
theorem act_eq (c : Dev nD) (t : Fin cfg0.N) (x0 x1 : Vec Ideal S1024x1024 .bf16) (h0 : x0 = iblk m c 0 t) (h1 : x1 = iblk m c 1 t) (r j : Fin 1024) :
    square (∑ k : Fin 1024, x0 (ix2 r k) * x1 (ix2 k j))
      = val_main_v10 (F := Ideal) (m ((c : Thread nD τ).loc main_arg0)) (m ((c : Thread nD τ).loc main_arg1)) (m ((c : Thread nD τ).loc main_arg2)) (m ((c : Thread nD τ).loc main_arg3)) (ix2 (row t r) (col t j)) := by
  subst h0 h1
  unfold square
  pointwise [val_main_v10, val_main_v9, val_main_v8, val_main_v7, val_main_v6, val_main_v5, val_main_v4, val_main_v3, val_main_v2, val_main_v1, val_main_v0, val_main_cst, val_main_call0_v0, val_main_call0_cst]
  refine congrArg square (Fin.sum_fin_congr fun k => congrArg₂ (· * ·) ?_ ?_)
  · blk_simp [iblk]
    rw [input_eq, show (win0_0.blk t).view.emb (ix2 r k) = ix2 (row t r) k from by blk_ext [index t, row]]
    pointwise []
  · blk_ext [iblk, index t, V_main_arg3, col]

/-- The activation the kernel leaves is the one the reference leaves. -/
theorem value_2_eq (c : Dev nD) : (dats m 0 c).arrAt 2 cfg0.N
    = Cert.Reference14Ideal.Read.val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]
  unfold outsAt0
  frame_out
  obtain ⟨r, j, rfl⟩ : ∃ (r j : Fin 1024), y = ix2 r j := ⟨y 0, y 1, eq_ix2 y⟩
  refine Eq.trans ?_ ((act_eq m c t _ _ rfl rfl r j).trans (congrArg _ (by blk_ext [index t, row, col])))
  unfold square
  pointwise [k0_pay2, k0_pay1]

/-- So is its transpose. -/
theorem value_3_eq (c : Dev nD) : (dats m 0 c).arrAt 3 cfg0.N
    = Cert.Reference14Ideal.Read.val_main_v11 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  unfold outsAt0
  frame_out
  obtain ⟨j, r, rfl⟩ : ∃ (j r : Fin 1024), y = ix2 j r := ⟨y 0, y 1, eq_ix2 y⟩
  have place : ((cfg0.win 3).blk t).view.emb (ix2 j r) = ix2 (col t j) (row t r) := by
    blk_ext [index t, row, col]
  refine Eq.trans ?_ ((act_eq m c t _ _ rfl rfl r j).trans (Eq.trans ?_ (congrArg _ place).symm))
  · unfold square
    pointwise [k0_pay3, k0_pay1]
  · open Cert.Reference14Ideal.Read in
    pointwise [val_main_v11]

/-- From any memory, kernel and reference end with the same arrays. -/
theorem algebraic : Cert.algebraic_Kernel14Ideal_Reference14Ideal := by
  pair_intro
  · run_from Value.run_blocks m g
  · run_from Cert.Reference14Ideal.Value.run m' g'
    · rw [value_2_eq]
      exact (Cert.Reference14Ideal.Read.val_main_v10_eq (F := Ideal) _ _ _ _).symm
    · rw [value_3_eq]
      exact (Cert.Reference14Ideal.Read.val_main_v11_eq (F := Ideal) _ _ _ _).symm

end Cert.FfIn

end
-- ==== Proof.OutProj.lean ====
/-
  The output projection with the first residual, layer normalisation and modulation.  One grid point takes 512 rows: the
  product with the whole weight, the scaled input plus the gated product, that row normalised, scaled, shifted and
  modulated, and the same rows transposed.
-/
module

public import proofs.«01_k».proof.Defs
public import proofs.«01_k».proof.Proof.Gen.Kernel15Ideal.Value
public import proofs.«01_k».proof.Proof.Gen.Reference15Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.OutProj

open Cert.Kernel15Ideal Cert.Kernel15Ideal.Gen

variable (m : (ℓ : Loc nD τ sig) → Buf (Elt Ideal) ℓ)

/-- The residual: the scaled input plus the gated product. -/
def resid (x g y : EReal) : EReal := Ideal.ofBits .f32 0x3F9837F0#32 * x + (1 + g) * y
/-- The mean of a row. -/
def mean (f : Fin 1024 → EReal) : EReal := Ideal.div (∑ k, f k) (Ideal.ofBits .f32 0x44800000#32)
/-- The mean square of a row about its mean. -/
def var (f : Fin 1024 → EReal) : EReal :=
  Ideal.div (∑ k, (f k - mean f) * (f k - mean f)) (Ideal.ofBits .f32 0x44800000#32)
/-- One entry of the normalised row, with gain, offset and modulation. -/
def modded (f : Fin 1024 → EReal) (l : Fin 1024) (gain offset scale shift : EReal) : EReal :=
  (((f l - mean f) * Ideal.rsqrt (var f + Ideal.ofBits .f32 0x3727C5AC#32)) * gain + offset) * (1 + scale) + shift

/-- The blocks of a grid point: a band of rows of the mixed rows, of the input and of three results, a band of columns of the
    transposed result, and the whole of everything else. -/
theorem index (t : Fin cfg0.N) : win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![0, t.val] := by
  revert t; decide +kernel

/-- The row of the arrays that is row `r` of a grid point's block. -/
def row (t : Fin cfg0.N) (r : Fin 512) : Fin 4096 := ⟨t.val * 512 + r.val, by have h : t.val < 8 := t.isLt; omega⟩

/-- The operands that a grid point takes whole. -/
theorem whole (c : Dev nD) (t : Fin cfg0.N) : iblk m c 1 t = m ((c : Thread nD τ).loc main_arg1)
    ∧ iblk m c 3 t = m ((c : Thread nD τ).loc main_arg3) ∧ iblk m c 4 t = m ((c : Thread nD τ).loc main_arg4)
    ∧ iblk m c 5 t = m ((c : Thread nD τ).loc main_arg5) ∧ iblk m c 6 t = m ((c : Thread nD τ).loc main_arg6)
    ∧ iblk m c 7 t = m ((c : Thread nD τ).loc main_arg7) := by
  refine ⟨?_, ?_, ?_, ?_, ?_, ?_⟩ <;>
  blk_ext! [iblk, index t, V_main_arg1, V_main_arg3, V_main_arg4, V_main_arg5, V_main_arg6, V_main_arg7]

/-- The operands of which it takes a band of rows. -/
theorem band (c : Dev nD) (t : Fin cfg0.N) (r : Fin 512) :
    (∀ k : Fin 2048, (iblk m c 0 t : Vec Ideal S512x2048 .bf16) (ix2 r k) = (m ((c : Thread nD τ).loc main_arg0) : Vec Ideal S4096x2048 .bf16) (ix2 (row t r) k))
    ∧ ∀ k : Fin 1024, (iblk m c 2 t : Vec Ideal S512x1024 .f32) (ix2 r k) = (m ((c : Thread nD τ).loc main_arg2) : Vec Ideal S4096x1024 .f32) (ix2 (row t r) k) := by
  refine ⟨fun k => ?_, fun k => ?_⟩ <;>
  blk_ext [iblk, index t, row, V_main_arg0, V_main_arg2]

open Cert.Reference15Ideal.Read in
/-- The product of the blocks is the reference's. -/
theorem prod_eq (c : Dev nD) (t : Fin cfg0.N) (r : Fin 512) (l : Fin 1024) :
    k0_pay4 (iblk m c 0 t : Vec Ideal S512x2048 .bf16) (iblk m c 1 t : Vec Ideal S2048x1024 .bf16) (ix2 r l)
      = val_main_v2 (F := Ideal) (m ((c : Thread nD τ).loc main_arg0)) (m ((c : Thread nD τ).loc main_arg1)) (ix2 (row t r) l) := by
  rw [(whole m c t).1]
  pointwise [k0_pay4, val_main_v2, val_main_v1, val_main_v0]
  exact Fin.sum_fin_congr fun k => congrArg (· * _) ((band m c t r).1 k)

open Cert.Reference15Ideal.Read in
/-- So is the residual. -/
theorem res_eq (c : Dev nD) (t : Fin cfg0.N) (r : Fin 512) (l : Fin 1024) :
    k0_pay5 (iblk m c 0 t : Vec Ideal S512x2048 .bf16) (iblk m c 1 t : Vec Ideal S2048x1024 .bf16) (iblk m c 2 t : Vec Ideal S512x1024 .f32)
        (iblk m c 3 t : Vec Ideal S1x1024 .f32) (ix2 r l)
      = val_main_v9 (F := Ideal) (m ((c : Thread nD τ).loc main_arg0)) (m ((c : Thread nD τ).loc main_arg1)) (m ((c : Thread nD τ).loc main_arg2)) (m ((c : Thread nD τ).loc main_arg3)) (ix2 (row t r) l) := by
  refine Eq.trans (b := resid ((iblk m c 2 t : Vec Ideal S512x1024 .f32) (ix2 r l)) ((iblk m c 3 t : Vec Ideal S1x1024 .f32) (ix2 0 l))
    (k0_pay4 (iblk m c 0 t : Vec Ideal S512x2048 .bf16) (iblk m c 1 t : Vec Ideal S2048x1024 .bf16) (ix2 r l))) (by unfold resid; pointwise [k0_pay5]) ?_
  rw [prod_eq, (band m c t r).2, (whole m c t).2.1]
  unfold resid
  pointwise [val_main_v9, val_main_v8, val_main_v7, val_main_v6, val_main_v5, val_main_cst_0, val_main_v4, val_main_v3, val_main_cst]

/-- The normalised and modulated row of a block, from the residual's row. -/
theorem hid_apply (x0 : Vec Ideal S512x2048 .bf16) (x1 : Vec Ideal S2048x1024 .bf16) (x2 : Vec Ideal S512x1024 .f32) (x3 x4 x5 x6 x7 : Vec Ideal S1x1024 .f32)
    (r : Fin 512) (l : Fin 1024) : k0_pay2 x4 x5 x7 (k0_pay6 x0 x1 x2 x3) (k0_pay7 x6) (ix2 r l)
      = modded (fun k => k0_pay5 x0 x1 x2 x3 (ix2 r k)) l (x6 (ix2 0 l)) (x7 (ix2 0 l)) (x4 (ix2 0 l)) (x5 (ix2 0 l)) := by
  unfold modded var mean
  pointwise [k0_pay2, k0_pay6, k0_pay7, k0_pay1]

open Cert.Reference15Ideal.Read in
/-- The normalised and modulated row of a grid point is the reference's. -/
theorem hid_eq (c : Dev nD) (t : Fin cfg0.N) (r : Fin 512) (l : Fin 1024) :
    k0_pay2 (iblk m c 4 t : Vec Ideal S1x1024 .f32) (iblk m c 5 t : Vec Ideal S1x1024 .f32) (iblk m c 7 t : Vec Ideal S1x1024 .f32)
        (k0_pay6 (iblk m c 0 t : Vec Ideal S512x2048 .bf16) (iblk m c 1 t : Vec Ideal S2048x1024 .bf16) (iblk m c 2 t : Vec Ideal S512x1024 .f32)
          (iblk m c 3 t : Vec Ideal S1x1024 .f32)) (k0_pay7 (iblk m c 6 t : Vec Ideal S1x1024 .f32)) (ix2 r l)
      = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) l) := by
  rw [hid_apply]
  simp only [res_eq, (whole m c t).2.2.1, (whole m c t).2.2.2.1, (whole m c t).2.2.2.2.1, (whole m c t).2.2.2.2.2]
  unfold modded var mean
  pointwise [val_main_v38, val_main_v37, val_main_v36, val_main_v35, val_main_v34, val_main_v33, val_main_v32, val_main_cst_6, val_main_v31, val_main_v30, val_main_v29, val_main_v28, val_main_v27, val_main_v26, val_main_v25, val_main_v24, val_main_v23, val_main_cst_5, val_main_v22, val_main_v21, val_main_v20, val_main_v19, val_main_cst_4, val_main_v18, val_main_v17, val_main_cst_3, val_main_v16, val_main_v15, val_main_v14, val_main_v13, val_main_v12, val_main_cst_2, val_main_v11, val_main_v10, val_main_cst_1]

/-- The product the kernel leaves is the one the reference leaves. -/
theorem value_8_eq (c : Dev nD) : (dats m 0 c).arrAt 8 cfg0.N
    = Cert.Reference15Ideal.Read.val_main_v2 (F := Ideal) (m ((c : Thread nD τ).loc main_arg0)) (m ((c : Thread nD τ).loc main_arg1)) := by
  refine (dats m 0 c).arrAt_eq_of_covers 8 _ (by decide +kernel) fun t _ y => ?_
  blk_simp
  rw [after0_8]
  unfold outsAt0
  frame_out
  obtain ⟨r, l, rfl⟩ : ∃ (r : Fin 512) (l : Fin 1024), y = ix2 r l := ⟨y 0, y 1, eq_ix2 y⟩
  exact (prod_eq m c t r l).trans (congrArg _ (by blk_ext [index t, row]))

/-- So is the residual. -/
theorem value_9_eq (c : Dev nD) : (dats m 0 c).arrAt 9 cfg0.N
    = Cert.Reference15Ideal.Read.val_main_v9 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  unfold outsAt0
  frame_out
  obtain ⟨r, l, rfl⟩ : ∃ (r : Fin 512) (l : Fin 1024), y = ix2 r l := ⟨y 0, y 1, eq_ix2 y⟩
  exact (res_eq m c t r l).trans (congrArg _ (by blk_ext [index t, row]))

/-- So are the normalised rows. -/
theorem value_10_eq (c : Dev nD) : (dats m 0 c).arrAt 10 cfg0.N
    = Cert.Reference15Ideal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  unfold outsAt0
  frame_out
  obtain ⟨r, l, rfl⟩ : ∃ (r : Fin 512) (l : Fin 1024), y = ix2 r l := ⟨y 0, y 1, eq_ix2 y⟩
  exact (hid_eq m c t r l).trans (congrArg _ (by blk_ext [index t, row]))

/-- And their transpose. -/
theorem value_11_eq (c : Dev nD) : (dats m 0 c).arrAt 11 cfg0.N
    = Cert.Reference15Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  unfold outsAt0
  frame_out
  obtain ⟨l, r, rfl⟩ : ∃ (l : Fin 1024) (r : Fin 512), y = ix2 l r := ⟨y 0, y 1, eq_ix2 y⟩
  have place : ((cfg0.win 11).blk t).view.emb (ix2 l r) = ix2 l (row t r) := by
    blk_ext [index t, row]
  refine Eq.trans ?_ ((hid_eq m c t r l).trans (Eq.trans ?_ (congrArg _ place).symm))
  · pointwise [k0_pay3, k0_pay2]
  · open Cert.Reference15Ideal.Read in
    pointwise [val_main_v39]

/-- From any memory, kernel and reference end with the same arrays. -/
theorem algebraic : Cert.algebraic_Kernel15Ideal_Reference15Ideal := by
  pair_intro
  · run_from Value.run_blocks m g
  · run_from Cert.Reference15Ideal.Value.run m' g'
    · rw [value_8_eq]
      exact (Cert.Reference15Ideal.Read.val_main_v2_eq (F := Ideal) _ _).symm
    · rw [value_9_eq]
      exact (Cert.Reference15Ideal.Read.val_main_v9_eq (F := Ideal) _ _ _ _).symm
    · rw [value_10_eq, Cert.Reference15Ideal.Read.val_main_v38_eq]
      simp only [hagree c]
    · rw [value_11_eq, Cert.Reference15Ideal.Read.val_main_v39_eq]
      simp only [hagree c]

end Cert.OutProj

end
-- ==== Proof.Adam.lean ====
/-
  The optimiser's step on the modulation weight's shard.  One grid point takes 256 rows of the weight, of its gradient and of the two moments.
-/
module

public import proofs.«01_k».proof.Defs
public import proofs.«01_k».proof.Proof.Gen.Kernel17Ideal.Value
public import proofs.«01_k».proof.Proof.Gen.Reference17Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Adam

open Cert.Kernel17Ideal Cert.Kernel17Ideal.Gen Cert.Reference17Ideal.Read

variable (m : (ℓ : Loc nD τ sig) → Buf (Elt Ideal) ℓ)

/-- Every window takes the grid point's band of rows. -/
theorem index (t : Fin cfg0.N) : (win0_0.index t = ![0, t.val, 0] ∧ win0_1.index t = ![t.val, 0] ∧ win0_2.index t = ![0, t.val, 0] ∧ win0_3.index t = ![0, t.val, 0])
    ∧ win0_4.index t = ![0, t.val, 0] ∧ win0_5.index t = ![0, t.val, 0] ∧ win0_6.index t = ![0, t.val, 0] ∧ win0_7.index t = ![0, t.val, 0] := by
  revert t; decide +kernel

/-- The row of the whole array that is row `r` of the band of `t`. -/
def row (t : Fin cfg0.N) (r : Fin 256) : Fin 1024 := ⟨t.val * 256 + r.val, by have h : t.val < 4 := t.isLt; omega⟩

/-- The four arguments' bands, entry by entry. -/
theorem bands (c : Dev nD) (t : Fin cfg0.N) (r : Fin 256) (l : Fin 1536) :
    (iblk m c 0 t : Vec Ideal S1x256x1536 .f32) (ix3 0 r l) = (m ((c : Thread nD τ).loc main_arg0) : Vec Ideal S1x1024x1536 .f32) (ix3 0 (row t r) l)
    ∧ (iblk m c 1 t : Vec Ideal S256x1536 .f32) (ix2 r l) = (m ((c : Thread nD τ).loc main_arg1) : Vec Ideal S1024x1536 .f32) (ix2 (row t r) l)
    ∧ (iblk m c 2 t : Vec Ideal S1x256x1536 .f32) (ix3 0 r l) = (m ((c : Thread nD τ).loc main_arg2) : Vec Ideal S1x1024x1536 .f32) (ix3 0 (row t r) l)
    ∧ (iblk m c 3 t : Vec Ideal S1x256x1536 .f32) (ix3 0 r l) = (m ((c : Thread nD τ).loc main_arg3) : Vec Ideal S1x1024x1536 .f32) (ix3 0 (row t r) l) := by
  refine ⟨?_, ?_, ?_, ?_⟩
  · blk_ext [iblk, index t, V_main_arg0, row]
  · blk_ext [iblk, index t, V_main_arg1, row]
  · blk_ext [iblk, index t, V_main_arg2, row]
  · blk_ext [iblk, index t, V_main_arg3, row]

/-- The gradient, the change and the two moments that the kernel leaves are those of the reference: all four are read off entry
    by entry, and an entry of a band is an entry of the whole array. -/
theorem value_eq (c : Dev nD) :
    (dats m 0 c).arrAt 4 cfg0.N = val_main_v0 (F := Ideal) (m ((c : Thread nD τ).loc main_arg1))
    ∧ (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v6 (F := Ideal) (m ((c : Thread nD τ).loc main_arg1)) (m ((c : Thread nD τ).loc main_arg2))
    ∧ (dats m 0 c).arrAt 7 cfg0.N = val_main_v12 (F := Ideal) (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    frame_out
    obtain ⟨a, r, l, rfl⟩ : ∃ (a : Fin 1) (r : Fin 256) (l : Fin 1536), y = ix3 a r l := ⟨y 0, y 1, y 2, eq_ix3 y⟩
    obtain rfl : a = 0 := Subsingleton.elim _ _
    refine Eq.trans ?_ (congrArg _ (show _ = ix3 0 (row t r) l by blk_ext [index t, row])).symm
    obtain ⟨w, g, f, s⟩ := bands m c t r l
    pointwise [k0_pay1, k0_pay2, k0_pay3, k0_pay4, k0_pay5, k0_pay6, k0_pay7, val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
    simp only [w, g, f, s]

/-- From any memory, kernel and reference end with the same four arrays. -/
theorem algebraic : Cert.algebraic_Kernel17Ideal_Reference17Ideal := by
  pair_intro
  · run_from Value.run_blocks m g
  · run_from Cert.Reference17Ideal.Value.run m' g'
    · rw [(value_eq _ _).1]; exact (val_main_v0_eq (F := Ideal) _).symm
    · rw [(value_eq _ _).2.1]; exact (val_main_v25_eq (F := Ideal) _ _ _ _).symm
    · rw [(value_eq _ _).2.2.1]; exact (val_main_v6_eq (F := Ideal) _ _).symm
    · rw [(value_eq _ _).2.2.2]; exact (val_main_v12_eq (F := Ideal) _ _).symm

end Cert.Adam

end
-- ==== Proof.Choice.lean ====
/-
  A choice made by comparing two words, as an if.
-/
module

public import Idealize.ShloMosaic.Lib.Pointwise

@[expose] public section

noncomputable section

open Idealize.ShloMosaic

namespace Cert.Choice

/-- A choice by an equation of two words. -/
theorem select_eq {α : Type} (x y : BitVec 32) (a b : α) :
    Scalar.select (Scalar.cmpi .eq x y) a b = if x = y then a else b := by
  unfold Scalar.select Scalar.cmpi IntOp.cmpi
  by_cases h : x = y
  · subst h; simp
  · have h' : (x == y) = false := by simpa using h
    rw [if_neg h]; simp [h']

/-- The same choice with the two words exchanged. -/
theorem select_swap {α : Type} (x y : BitVec 32) (a b : α) :
    Scalar.select (IntOp.cmpi .eq x y) a b = if y = x then a else b :=
  (select_eq x y a b).trans (if_congr eq_comm rfl rfl)

end Cert.Choice

end
-- ==== Proof.AdamIn.lean ====
/-
  The optimiser's step on the mixing layer's input weight.  The gradient lies in two halves side by side, the device's own and its
  neighbour's; a word says which half comes first.  One grid point takes 472 rows of one half and the matching piece of the weight.
-/
module

public import proofs.«01_k».proof.Defs
public import proofs.«01_k».proof.Proof.Gen.Kernel18Ideal.Value
public import proofs.«01_k».proof.Proof.Gen.Reference18Ideal.Read
public import Idealize.ShloMosaic.Lib.Pipeline.ValueKit
public import Idealize.ShloMosaic.Lib.Claim
public import Idealize.ShloMosaic.Lib.Pointwise
public import proofs.«01_k».proof.Proof.Choice

@[expose] public section

noncomputable section

open Idealize.ShloMosaic Idealize.ShloMosaic.TcCoe Idealize.SL.Sem
open Idealize.ShloMosaic.Pipeline (Dat)

namespace Cert.AdamIn

open Cert.Kernel18Ideal Cert.Kernel18Ideal.Gen Cert.Choice Cert.Reference18Ideal.Read

section
variable {F : FTy → Type} [FloatOps F]

/-- The half that a grid point takes: the first half at even grid points, the second at odd ones. -/
theorem half_eq (t : Fin cfg0.N) (s : BitVec 32) (a b : Vec F S472x512 .f32) :
    k0_pay4 (grid0.coords t) s a b = if BitVec.ofNat 32 (t.val % 2) = s then a else b := by
  unfold k0_pay4
  dsimp only
  rw [select_eq]
  refine congrArg (fun w : BitVec 32 => if w = s then a else b) ?_
  clear a b s
  revert t
  decide +kernel

/-- The word, once read as an array of one entry. -/
theorem word_eq (m : (ℓ : Loc nD τ sig) → Buf (Elt F) ℓ) (c : Dev nD) :
    (V m c main_v0 : Vec F S1 .i32) = shapeCast S1 (m ((c : Thread nD τ).loc main_arg5) : Vec F S_ .i32) shapeCasts_S_S1 := by
  unfold V
  after_results
  rfl

end

variable (m : (ℓ : Loc nD τ sig) → Buf (Elt Ideal) ℓ)

/-- The weight, the moments and the results go in three bands of two pieces; each half goes in three bands. -/
theorem index (t : Fin cfg0.N) : (win0_1.index t = ![0, t.val / 2, t.val % 2] ∧ win0_2.index t = ![t.val / 2, 0] ∧ win0_3.index t = ![t.val / 2, 0] ∧ win0_4.index t = ![0, t.val / 2, t.val % 2] ∧ win0_5.index t = ![0, t.val / 2, t.val % 2])
    ∧ win0_6.index t = ![0, t.val / 2, t.val % 2] ∧ win0_7.index t = ![0, t.val / 2, t.val % 2] ∧ win0_8.index t = ![0, t.val / 2, t.val % 2] ∧ win0_9.index t = ![0, t.val / 2, t.val % 2] := by
  revert t; decide +kernel

/-- The row of the whole array that is row `r` of the piece of `t`. -/
def row (t : Fin cfg0.N) (r : Fin 472) : Fin 1416 := ⟨t.val / 2 * 472 + r.val, by have h : t.val < 6 := t.isLt; omega⟩

/-- The column of the whole array that is column `l` of the piece of `t`. -/
def col (t : Fin cfg0.N) (l : Fin 512) : Fin 1024 := ⟨t.val % 2 * 512 + l.val, by omega⟩

/-- The word, in every block. -/
theorem word (c : Dev nD) (t : Fin cfg0.N) :
    (iblk m c 0 t : Vec Ideal S1 .i32) (ix1 0) = (m ((c : Thread nD τ).loc main_arg5) : Vec Ideal S_ .i32) ix0 := by
  blk_simp [iblk]
  rw [word_eq]
  exact congrArg (m ((c : Thread nD τ).loc main_arg5) : Vec Ideal S_ .i32) (funext fun a => a.elim0)

/-- The pieces of the weight, of the two halves and of the two moments, entry by entry. -/
theorem pieces (c : Dev nD) (t : Fin cfg0.N) (r : Fin 472) (l : Fin 512) :
    (iblk m c 1 t : Vec Ideal S1x472x512 .f32) (ix3 0 r l) = (m ((c : Thread nD τ).loc main_arg0) : Vec Ideal S1x1416x1024 .f32) (ix3 0 (row t r) (col t l))
    ∧ (iblk m c 2 t : Vec Ideal S472x512 .f32) (ix2 r l) = (m ((c : Thread nD τ).loc main_arg1) : Vec Ideal S1416x512 .f32) (ix2 (row t r) l)
    ∧ (iblk m c 3 t : Vec Ideal S472x512 .f32) (ix2 r l) = (m ((c : Thread nD τ).loc main_arg2) : Vec Ideal S1416x512 .f32) (ix2 (row t r) l)
    ∧ (iblk m c 4 t : Vec Ideal S1x472x512 .f32) (ix3 0 r l) = (m ((c : Thread nD τ).loc main_arg3) : Vec Ideal S1x1416x1024 .f32) (ix3 0 (row t r) (col t l))
    ∧ (iblk m c 5 t : Vec Ideal S1x472x512 .f32) (ix3 0 r l) = (m ((c : Thread nD τ).loc main_arg4) : Vec Ideal S1x1416x1024 .f32) (ix3 0 (row t r) (col t l)) := by
  refine ⟨?_, ?_, ?_, ?_, ?_⟩
  · blk_ext [iblk, index t, V_main_arg0, row, col]
  · blk_ext [iblk, index t, V_main_arg1, row]
  · blk_ext [iblk, index t, V_main_arg2, row]
  · blk_ext [iblk, index t, V_main_arg3, row, col]
  · blk_ext [iblk, index t, V_main_arg4, row, col]

/-- The gradient's entry in a piece is the reference's: the chosen half is the one in which the whole array's column lies. -/
theorem grad (c : Dev nD) (t : Fin cfg0.N) (r : Fin 472) (l : Fin 512) :
    k0_pay4 (F := Ideal) (grid0.coords t) ((iblk m c 0 t : Vec Ideal S1 .i32) (ix1 0)) (iblk m c 2 t) (iblk m c 3 t) (ix2 r l)
      = val_main_v5 (F := Ideal) (m ((c : Thread nD τ).loc main_arg1)) (m ((c : Thread nD τ).loc main_arg2)) (m ((c : Thread nD τ).loc main_arg5)) (ix3 0 (row t r) (col t l)) := by
  obtain ⟨-, a, b, -⟩ := pieces m c t r l
  rw [half_eq, word, ite_apply, a, b]
  pointwise [val_main_v5, val_main_v4, val_main_v3, val_main_v2, val_main_c_0, val_main_v1, val_main_v0, val_main_c]
  by_cases h : (col t l).val < 512
  · have e : t.val % 2 = 0 := by simp only [col] at h; omega
    have p : (⟨(col t l).val, h⟩ : Fin 512) = l := Fin.ext (by simp only [col]; omega)
    simp only [dif_pos h, e, p, select_swap]
  · have e : t.val % 2 = 1 := by simp only [col] at h; omega
    have p : (⟨(col t l).val - 512, by omega⟩ : Fin 512) = l := Fin.ext (by simp only [col]; omega)
    simp only [dif_neg h, e, p, select_swap]

/-- The gradient, the change and the two moments that the kernel leaves are those of the reference: all four are read off entry
    by entry, and an entry of a piece is an entry of the whole array. -/
theorem value_eq (c : Dev nD) :
    (dats m 0 c).arrAt 6 cfg0.N = val_main_v5 (F := Ideal) (m ((c : Thread nD τ).loc main_arg1)) (m ((c : Thread nD τ).loc main_arg2)) (m ((c : Thread nD τ).loc main_arg5))
    ∧ (dats m 0 c).arrAt 7 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ (dats m 0 c).arrAt 8 cfg0.N = val_main_v10 (F := Ideal) (m ((c : Thread nD τ).loc main_arg1)) (m ((c : Thread nD τ).loc main_arg2)) (m ((c : Thread nD τ).loc main_arg3)) (m ((c : Thread nD τ).loc main_arg5))
    ∧ (dats m 0 c).arrAt 9 cfg0.N = val_main_v16 (F := Ideal) (m ((c : Thread nD τ).loc main_arg1)) (m ((c : Thread nD τ).loc main_arg2)) (m ((c : Thread nD τ).loc main_arg4)) (m ((c : Thread nD τ).loc main_arg5)) := by
  refine ⟨(dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_,
    (dats m 0 c).arrAt_eq_of_covers 9 _ (by decide +kernel) fun t _ y => ?_⟩
  all_goals
    blk_simp
    first | rw [after0_6] | rw [after0_7] | rw [after0_8] | rw [after0_9]
    unfold outsAt0
    frame_out
    obtain ⟨a, r, l, rfl⟩ : ∃ (a : Fin 1) (r : Fin 472) (l : Fin 512), y = ix3 a r l := ⟨y 0, y 1, y 2, eq_ix3 y⟩
    obtain rfl : a = 0 := Subsingleton.elim _ _
    refine Eq.trans ?_ (congrArg _ (show _ = ix3 0 (row t r) (col t l) by blk_ext [index t, row, col])).symm
    obtain ⟨w, -, -, f, s⟩ := pieces m c t r l
    have g := grad m c t r l
    pointwise [k0_pay1, k0_pay2, k0_pay3, k0_pay5, k0_pay6, k0_pay7, k0_pay8, k0_pay9, val_main_v29, val_main_v28, val_main_cst_8, val_main_v27, val_main_v26, val_main_v25, val_main_cst_7, val_main_v24, val_main_v23, val_main_v22, val_main_cst_6, val_main_v21, val_main_v20, val_main_v19, val_main_cst_5, val_main_v18, val_main_v17, val_main_cst_4, val_main_v16, val_main_v15, val_main_v14, val_main_cst_3, val_main_v13, val_main_v12, val_main_v11, val_main_cst_2, val_main_v10, val_main_v9, val_main_v8, val_main_cst_1, val_main_v7, val_main_v6, val_main_cst]
    simp only [w, g, f, s]

/-- From any memory, kernel and reference end with the same four arrays. -/
theorem algebraic : Cert.algebraic_Kernel18Ideal_Reference18Ideal := by
  pair_intro
  · run_from Value.run_blocks m g
  · run_from Cert.Reference18Ideal.Value.run m' g'
    · rw [(value_eq m c).1, val_main_v5_eq]; simp only [hagree c]
    · rw [(value_eq m c).2.1, val_main_v29_eq]; simp only [hagree c]
    · rw [(value_eq m c).2.2.1, val_main_v10_eq]; simp only [hagree c]
    · rw [(value_eq m c).2.2.2, val_main_v16_eq]; simp only [hagree c]

end Cert.AdamIn

end
-- ==== Proof.WAdaGrad.lean ====
/-
  The gradient of the modulation weight: each of its entries is a sum over the eight items of the batch, of the gated
  conditioning entry times the gradient of the modulation entry.  One grid point makes 256 rows.
-/
module

public import proofs.«01_k».proof.Defs
public import proofs.«01_k».proof.Proof.Gen.Kernel19Ideal.Value
public import proofs.«01_k».proof.Proof.Gen.Reference19Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.WAdaGrad

open Cert.Kernel19Ideal Cert.Kernel19Ideal.Gen

variable (m : (ℓ : Loc nD τ sig) → Buf (Elt Ideal) ℓ)

/-- The gate `v / (1 + exp (-v))`. -/
def gate (v : EReal) : EReal := v * Ideal.div 1 (1 + Ideal.exp (-v))

/-- One row of a block of eight, read by itself. -/
theorem row (x : Vec Ideal S8x1536 .f32) (k : Fin 8) (inb : ∀ a, (![k.val, 0] : Fin 2 → ℕ) a + S1x1536.size a ≤ S8x1536.size a) (l : Fin 1536) :
    View.ld x (Rect.unit (s := S8x1536) ![k.val, 0] S1x1536.size inb) (ix2 0 l) = x (ix2 k l) := by
  refine congrArg x (funext fun a => Fin.ext ?_)
  match a with
  | ⟨0, _⟩ => rfl
  | ⟨1, _⟩ => show 0 + 1 * l.val = l.val; omega

/-- The block that a grid point leaves, entry by entry: the eight terms of the batch, added one after the other. -/
theorem out_apply (x0 : Vec Ideal S256x8 .f32) (x1 : Vec Ideal S8x1536 .f32) (r : Fin 256) (l : Fin 1536) :
    out0_2 x0 x1 (ix2 r l) = ∑ k : Fin 8, gate (x0 (ix2 r k)) * x1 (ix2 k l) := by
  frame_out
  rw [Fin.sum_univ_eight]
  unfold gate
  simp only [← row x1 0 (by decide), ← row x1 1 (by decide), ← row x1 2 (by decide), ← row x1 3 (by decide), ← row x1 4 (by decide),
    ← row x1 5 (by decide), ← row x1 6 (by decide), ← row x1 7 (by decide)]
  pointwise [k0_pay1, k0_pay2, k0_pay3, k0_pay4, k0_pay5]
  simp only [zero_sub]

/-- The blocks of a grid point: a band of the conditioning's rows and of the result's, and the whole gradient. -/
theorem index (t : Fin cfg0.N) : win0_0.index t = ![t.val, 0] ∧ win0_1.index t = ![0, 0] ∧ win0_2.index t = ![t.val, 0] := by
  revert t; decide +kernel

/-- The array the kernel leaves is the array the reference leaves. -/
theorem value_eq (c : Dev nD) : (dats m 0 c).arrAt 2 cfg0.N
    = Cert.Reference19Ideal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  have hN : t.val < 4 := t.isLt
  obtain ⟨r, l, rfl⟩ : ∃ (r : Fin 256) (l : Fin 1536), y = ix2 r l := ⟨y 0, y 1, eq_ix2 y⟩
  have place : ((cfg0.win 2).blk t).view.emb (ix2 r l) = ix2 (⟨t.val * 256 + r.val, by omega⟩ : Fin 1024) l := by
    blk_ext [index t]
  refine (out_apply _ _ r l).trans (Eq.trans ?_ (congrArg _ place).symm)
  unfold gate
  open Cert.Reference19Ideal.Read in
  pointwise [val_main_v5, val_main_v4, val_main_v2, val_main_call0_v5, val_main_call0_v4, val_main_call0_cst_0, val_main_call0_v3, val_main_call0_v2, val_main_call0_cst, val_main_call0_v1, val_main_call0_v0, val_main_v1]
  refine Fin.sum_fin_congr fun k => (congrArg₂ (fun a b => gate a * b) ?_ ?_).trans (mul_comm (G := EReal) _ _)
  · blk_ext [iblk, index t, V_main_arg0]
  · blk_ext [iblk, index t, V_main_arg1]

/-- From any memory, kernel and reference end with the same array. -/
theorem algebraic : Cert.algebraic_Kernel19Ideal_Reference19Ideal := by
  pair_intro
  · run_from Value.run_blocks m g
  · run_from Cert.Reference19Ideal.Value.run m' g'
    rw [value_eq]
    exact (Cert.Reference19Ideal.Read.val_main_v5_eq (F := Ideal) _ _).symm

end Cert.WAdaGrad

end
-- ==== Proof.AdamConv.lean ====
/-
  The optimiser's step on the convolution's taps.  The grid has one point, which takes every array whole.
-/
module

public import proofs.«01_k».proof.Defs
public import proofs.«01_k».proof.Proof.Gen.Kernel20Ideal.Value
public import proofs.«01_k».proof.Proof.Gen.Reference20Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.AdamConv

open Cert.Kernel20Ideal Cert.Kernel20Ideal.Gen Cert.Reference20Ideal.Read

variable (m : (ℓ : Loc nD τ sig) → Buf (Elt Ideal) ℓ)

/-- Every window starts at the array's corner. -/
theorem index (t : Fin cfg0.N) : (win0_0.index t = ![0, 0, 0] ∧ win0_1.index t = ![0, 0] ∧ win0_2.index t = ![0, 0, 0] ∧ win0_3.index t = ![0, 0, 0])
    ∧ win0_4.index t = ![0, 0, 0] ∧ win0_5.index t = ![0, 0, 0] ∧ win0_6.index t = ![0, 0, 0] ∧ win0_7.index t = ![0, 0, 0] := by
  revert t; decide +kernel

/-- Each argument's block is the argument. -/
theorem whole (c : Dev nD) (t : Fin cfg0.N) :
    iblk m c 0 t = m ((c : Thread nD τ).loc main_arg0) ∧ iblk m c 1 t = m ((c : Thread nD τ).loc main_arg1)
    ∧ iblk m c 2 t = m ((c : Thread nD τ).loc main_arg2) ∧ iblk m c 3 t = m ((c : Thread nD τ).loc main_arg3) := by
  refine ⟨?_, ?_, ?_, ?_⟩
  · blk_ext! [iblk, index t, V_main_arg0]
  · blk_ext! [iblk, index t, V_main_arg1]
  · blk_ext! [iblk, index t, V_main_arg2]
  · blk_ext! [iblk, index t, V_main_arg3]

/-- The gradient, the change and the two moments that the kernel leaves are those of the reference, entry by entry. -/
theorem value_eq (c : Dev nD) :
    (dats m 0 c).arrAt 4 cfg0.N = val_main_v0 (F := Ideal) (m ((c : Thread nD τ).loc main_arg1))
    ∧ (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v6 (F := Ideal) (m ((c : Thread nD τ).loc main_arg1)) (m ((c : Thread nD τ).loc main_arg2))
    ∧ (dats m 0 c).arrAt 7 cfg0.N = val_main_v12 (F := Ideal) (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    obtain ⟨w, g, f, s⟩ := whole m c t
    rw [w, g, f, s]
    frame_out
    obtain ⟨a, r, l, rfl⟩ : ∃ (a : Fin 1) (r : Fin 4) (l : Fin 384), y = ix3 a r l := ⟨y 0, y 1, y 2, eq_ix3 y⟩
    obtain rfl : a = 0 := Subsingleton.elim _ _
    refine Eq.trans ?_ (congrArg _ (show _ = ix3 0 r l by blk_ext [index t])).symm
    pointwise [k0_pay1, k0_pay2, k0_pay3, k0_pay4, k0_pay5, k0_pay6, k0_pay7, val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]

/-- From any memory, kernel and reference end with the same four arrays. -/
theorem algebraic : Cert.algebraic_Kernel20Ideal_Reference20Ideal := by
  pair_intro
  · run_from Value.run_blocks m g
  · run_from Cert.Reference20Ideal.Value.run m' g'
    · rw [(value_eq _ _).1]; exact (val_main_v0_eq (F := Ideal) _).symm
    · rw [(value_eq _ _).2.1]; exact (val_main_v25_eq (F := Ideal) _ _ _ _).symm
    · rw [(value_eq _ _).2.2.1]; exact (val_main_v6_eq (F := Ideal) _ _).symm
    · rw [(value_eq _ _).2.2.2]; exact (val_main_v12_eq (F := Ideal) _ _).symm

end Cert.AdamConv

end
-- ==== Proof.AdamOut.lean ====
/-
  The optimiser's step on the mixing layer's output weight.  The gradient lies in two halves, the device's own and its neighbour's; a word
  says which half comes first.  The first grid point takes the upper 256 rows and the first half, the second the lower rows and the other.
-/
module

public import proofs.«01_k».proof.Defs
public import proofs.«01_k».proof.Proof.Gen.Kernel21Ideal.Value
public import proofs.«01_k».proof.Proof.Gen.Reference21Ideal.Read
public import Idealize.ShloMosaic.Lib.Pipeline.ValueKit
public import Idealize.ShloMosaic.Lib.Claim
public import Idealize.ShloMosaic.Lib.Pointwise
public import proofs.«01_k».proof.Proof.Choice

@[expose] public section

noncomputable section

open Idealize.ShloMosaic Idealize.ShloMosaic.TcCoe Idealize.SL.Sem
open Idealize.ShloMosaic.Pipeline (Dat)

namespace Cert.AdamOut

open Cert.Kernel21Ideal Cert.Kernel21Ideal.Gen Cert.Choice Cert.Reference21Ideal.Read

section
variable {F : FTy → Type} [FloatOps F]

/-- Grid point `t` takes half number `t`: the own half where the word is `t`, the neighbour's elsewhere. -/
theorem half_eq (t : Fin cfg0.N) (s : BitVec 32) (a b : Vec F S256x1024 .f32) :
    k0_pay6 (grid0.coords t) s a b = if BitVec.ofNat 32 t.val = s then a else b := by
  unfold k0_pay6
  dsimp only
  rw [select_eq]
  refine congrArg (fun w : BitVec 32 => if w = s then a else b) ?_
  clear a b s
  revert t
  decide +kernel

/-- The word, once read as an array of one entry. -/
theorem word_eq (m : (ℓ : Loc nD τ sig) → Buf (Elt F) ℓ) (c : Dev nD) :
    (V m c main_v0 : Vec F S1 .i32) = shapeCast S1 (m ((c : Thread nD τ).loc main_arg5) : Vec F S_ .i32) shapeCasts_S_S1 := by
  unfold V
  after_results
  rfl

end

variable (m : (ℓ : Loc nD τ sig) → Buf (Elt Ideal) ℓ)

/-- The weight, the moments and the results go in two bands; both halves are taken whole. -/
theorem index (t : Fin cfg0.N) : (win0_1.index t = ![0, t.val, 0] ∧ win0_2.index t = ![0, 0] ∧ win0_3.index t = ![0, 0] ∧ win0_4.index t = ![0, t.val, 0] ∧ win0_5.index t = ![0, t.val, 0])
    ∧ win0_6.index t = ![0, t.val, 0] ∧ win0_7.index t = ![0, t.val, 0] ∧ win0_8.index t = ![0, t.val, 0] ∧ win0_9.index t = ![0, t.val, 0] := by
  revert t; decide +kernel

/-- The row of the whole array that is row `r` of the band of `t`. -/
def row (t : Fin cfg0.N) (r : Fin 256) : Fin 512 := ⟨t.val * 256 + r.val, by have h : t.val < 2 := t.isLt; omega⟩

/-- The word, in every block. -/
theorem word (c : Dev nD) (t : Fin cfg0.N) :
    (iblk m c 0 t : Vec Ideal S1 .i32) (ix1 0) = (m ((c : Thread nD τ).loc main_arg5) : Vec Ideal S_ .i32) ix0 := by
  blk_simp [iblk]
  rw [word_eq]
  exact congrArg (m ((c : Thread nD τ).loc main_arg5) : Vec Ideal S_ .i32) (funext fun a => a.elim0)

/-- Each half's block is the half. -/
theorem halves (c : Dev nD) (t : Fin cfg0.N) :
    iblk m c 2 t = m ((c : Thread nD τ).loc main_arg1) ∧ iblk m c 3 t = m ((c : Thread nD τ).loc main_arg2) := by
  refine ⟨?_, ?_⟩
  · blk_ext! [iblk, index t, V_main_arg1]
  · blk_ext! [iblk, index t, V_main_arg2]

/-- The bands of the weight and of the two moments, entry by entry. -/
theorem bands (c : Dev nD) (t : Fin cfg0.N) (r : Fin 256) (l : Fin 1024) :
    (iblk m c 1 t : Vec Ideal S1x256x1024 .f32) (ix3 0 r l) = (m ((c : Thread nD τ).loc main_arg0) : Vec Ideal S1x512x1024 .f32) (ix3 0 (row t r) l)
    ∧ (iblk m c 4 t : Vec Ideal S1x256x1024 .f32) (ix3 0 r l) = (m ((c : Thread nD τ).loc main_arg3) : Vec Ideal S1x512x1024 .f32) (ix3 0 (row t r) l)
    ∧ (iblk m c 5 t : Vec Ideal S1x256x1024 .f32) (ix3 0 r l) = (m ((c : Thread nD τ).loc main_arg4) : Vec Ideal S1x512x1024 .f32) (ix3 0 (row t r) l) := by
  refine ⟨?_, ?_, ?_⟩
  · blk_ext [iblk, index t, V_main_arg0, row]
  · blk_ext [iblk, index t, V_main_arg3, row]
  · blk_ext [iblk, index t, V_main_arg4, row]

/-- The gradient's entry in a band is the reference's: the chosen half is the one in which the whole array's row lies. -/
theorem grad (c : Dev nD) (t : Fin cfg0.N) (r : Fin 256) (l : Fin 1024) :
    k0_pay6 (F := Ideal) (grid0.coords t) ((iblk m c 0 t : Vec Ideal S1 .i32) (ix1 0)) (iblk m c 2 t) (iblk m c 3 t) (ix2 r l)
      = val_main_v5 (F := Ideal) (m ((c : Thread nD τ).loc main_arg1)) (m ((c : Thread nD τ).loc main_arg2)) (m ((c : Thread nD τ).loc main_arg5)) (ix3 0 (row t r) l) := by
  rw [half_eq, word, (halves m c t).1, (halves m c t).2, ite_apply]
  pointwise [val_main_v5, val_main_v4, val_main_v3, val_main_v2, val_main_c_0, val_main_v1, val_main_v0, val_main_c]
  have hN : t.val < 2 := t.isLt
  by_cases h : (row t r).val < 256
  · have e : t.val = 0 := by simp only [row] at h; omega
    have p : (⟨(row t r).val, h⟩ : Fin 256) = r := Fin.ext (by simp only [row]; omega)
    simp only [dif_pos h, e, p, select_swap]
  · have e : t.val = 1 := by simp only [row] at h; omega
    have p : (⟨(row t r).val - 256, by omega⟩ : Fin 256) = r := Fin.ext (by simp only [row]; omega)
    simp only [dif_neg h, e, p, select_swap]

/-- The gradient, the change and the two moments that the kernel leaves are those of the reference: all four are read off entry
    by entry, and an entry of a band is an entry of the whole array. -/
theorem value_eq (c : Dev nD) :
    (dats m 0 c).arrAt 6 cfg0.N = val_main_v5 (F := Ideal) (m ((c : Thread nD τ).loc main_arg1)) (m ((c : Thread nD τ).loc main_arg2)) (m ((c : Thread nD τ).loc main_arg5))
    ∧ (dats m 0 c).arrAt 7 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ (dats m 0 c).arrAt 8 cfg0.N = val_main_v10 (F := Ideal) (m ((c : Thread nD τ).loc main_arg1)) (m ((c : Thread nD τ).loc main_arg2)) (m ((c : Thread nD τ).loc main_arg3)) (m ((c : Thread nD τ).loc main_arg5))
    ∧ (dats m 0 c).arrAt 9 cfg0.N = val_main_v16 (F := Ideal) (m ((c : Thread nD τ).loc main_arg1)) (m ((c : Thread nD τ).loc main_arg2)) (m ((c : Thread nD τ).loc main_arg4)) (m ((c : Thread nD τ).loc main_arg5)) := by
  refine ⟨(dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_,
    (dats m 0 c).arrAt_eq_of_covers 9 _ (by decide +kernel) fun t _ y => ?_⟩
  all_goals
    blk_simp
    first | rw [after0_6] | rw [after0_7] | rw [after0_8] | rw [after0_9]
    unfold outsAt0
    frame_out
    obtain ⟨a, r, l, rfl⟩ : ∃ (a : Fin 1) (r : Fin 256) (l : Fin 1024), y = ix3 a r l := ⟨y 0, y 1, y 2, eq_ix3 y⟩
    obtain rfl : a = 0 := Subsingleton.elim _ _
    refine Eq.trans ?_ (congrArg _ (show _ = ix3 0 (row t r) l by blk_ext [index t, row])).symm
    obtain ⟨w, f, s⟩ := bands m c t r l
    have g := grad m c t r l
    pointwise [k0_pay1, k0_pay2, k0_pay3, k0_pay4, k0_pay5, k0_pay7, k0_pay8, k0_pay9, k0_pay10, k0_pay11, val_main_v29, val_main_v28, val_main_cst_8, val_main_v27, val_main_v26, val_main_v25, val_main_cst_7, val_main_v24, val_main_v23, val_main_v22, val_main_cst_6, val_main_v21, val_main_v20, val_main_v19, val_main_cst_5, val_main_v18, val_main_v17, val_main_cst_4, val_main_v16, val_main_v15, val_main_v14, val_main_cst_3, val_main_v13, val_main_v12, val_main_v11, val_main_cst_2, val_main_v10, val_main_v9, val_main_v8, val_main_cst_1, val_main_v7, val_main_v6, val_main_cst]
    simp only [w, g, f, s]

/-- From any memory, kernel and reference end with the same four arrays. -/
theorem algebraic : Cert.algebraic_Kernel21Ideal_Reference21Ideal := by
  pair_intro
  · run_from Value.run_blocks m g
  · run_from Cert.Reference21Ideal.Value.run m' g'
    · rw [(value_eq m c).1, val_main_v5_eq]; simp only [hagree c]
    · rw [(value_eq m c).2.1, val_main_v29_eq]; simp only [hagree c]
    · rw [(value_eq m c).2.2.1, val_main_v10_eq]; simp only [hagree c]
    · rw [(value_eq m c).2.2.2, val_main_v16_eq]; simp only [hagree c]

end Cert.AdamOut

end
-- ==== Proof.AdamFf.lean ====
/-
  The optimiser's step on a feed-forward weight's shard.  The gradient lies in two halves, the device's own and its neighbour's; a word
  says which half comes first.  One grid point takes 256 rows of the weight and of the moments and the matching rows of one half.
-/
module

public import proofs.«01_k».proof.Defs
public import proofs.«01_k».proof.Proof.Gen.Kernel22Ideal.Value
public import proofs.«01_k».proof.Proof.Gen.Reference22Ideal.Read
public import Idealize.ShloMosaic.Lib.Pipeline.ValueKit
public import Idealize.ShloMosaic.Lib.Claim
public import Idealize.ShloMosaic.Lib.Pointwise
public import proofs.«01_k».proof.Proof.Choice

@[expose] public section

noncomputable section

open Idealize.ShloMosaic Idealize.ShloMosaic.TcCoe Idealize.SL.Sem
open Idealize.ShloMosaic.Pipeline (Dat)

namespace Cert.AdamFf

open Cert.Kernel22Ideal Cert.Kernel22Ideal.Gen Cert.Choice Cert.Reference22Ideal.Read

section
variable {F : FTy → Type} [FloatOps F]

/-- The half that a grid point takes: the first two grid points take the first half, the others the second. -/
theorem half_eq (t : Fin cfg0.N) (s : BitVec 32) (a b : Vec F S256x1024 .f32) :
    k0_pay6 (grid0.coords t) s a b = if BitVec.ofNat 32 (t.val / 2) = s then a else b := by
  unfold k0_pay6
  dsimp only
  rw [select_eq]
  refine congrArg (fun w : BitVec 32 => if w = s then a else b) ?_
  clear a b s
  revert t
  decide +kernel

/-- The word, once read as an array of one entry. -/
theorem word_eq (m : (ℓ : Loc nD τ sig) → Buf (Elt F) ℓ) (c : Dev nD) :
    (V m c main_v0 : Vec F S1 .i32) = shapeCast S1 (m ((c : Thread nD τ).loc main_arg5) : Vec F S_ .i32) shapeCasts_S_S1 := by
  unfold V
  after_results
  rfl

end

variable (m : (ℓ : Loc nD τ sig) → Buf (Elt Ideal) ℓ)

/-- The weight, the moments and the results go in four bands; each half goes in two, which come round twice. -/
theorem index (t : Fin cfg0.N) : (win0_1.index t = ![0, t.val, 0] ∧ win0_2.index t = ![t.val % 2, 0] ∧ win0_3.index t = ![t.val % 2, 0] ∧ win0_4.index t = ![0, t.val, 0] ∧ win0_5.index t = ![0, t.val, 0])
    ∧ win0_6.index t = ![0, t.val, 0] ∧ win0_7.index t = ![0, t.val, 0] ∧ win0_8.index t = ![0, t.val, 0] ∧ win0_9.index t = ![0, t.val, 0] := by
  revert t; decide +kernel

/-- The row of the whole array that is row `r` of the band of `t`. -/
def row (t : Fin cfg0.N) (r : Fin 256) : Fin 1024 := ⟨t.val * 256 + r.val, by have h : t.val < 4 := t.isLt; omega⟩

/-- The row of a half that is row `r` of the band of `t`. -/
def halfRow (t : Fin cfg0.N) (r : Fin 256) : Fin 512 := ⟨t.val % 2 * 256 + r.val, by omega⟩

/-- The word, in every block. -/
theorem word (c : Dev nD) (t : Fin cfg0.N) :
    (iblk m c 0 t : Vec Ideal S1 .i32) (ix1 0) = (m ((c : Thread nD τ).loc main_arg5) : Vec Ideal S_ .i32) ix0 := by
  blk_simp [iblk]
  rw [word_eq]
  exact congrArg (m ((c : Thread nD τ).loc main_arg5) : Vec Ideal S_ .i32) (funext fun a => a.elim0)

/-- The bands of the weight, of the two halves and of the two moments, entry by entry. -/
theorem bands (c : Dev nD) (t : Fin cfg0.N) (r : Fin 256) (l : Fin 1024) :
    (iblk m c 1 t : Vec Ideal S1x256x1024 .f32) (ix3 0 r l) = (m ((c : Thread nD τ).loc main_arg0) : Vec Ideal S1x1024x1024 .f32) (ix3 0 (row t r) l)
    ∧ (iblk m c 2 t : Vec Ideal S256x1024 .f32) (ix2 r l) = (m ((c : Thread nD τ).loc main_arg1) : Vec Ideal S512x1024 .f32) (ix2 (halfRow t r) l)
    ∧ (iblk m c 3 t : Vec Ideal S256x1024 .f32) (ix2 r l) = (m ((c : Thread nD τ).loc main_arg2) : Vec Ideal S512x1024 .f32) (ix2 (halfRow t r) l)
    ∧ (iblk m c 4 t : Vec Ideal S1x256x1024 .f32) (ix3 0 r l) = (m ((c : Thread nD τ).loc main_arg3) : Vec Ideal S1x1024x1024 .f32) (ix3 0 (row t r) l)
    ∧ (iblk m c 5 t : Vec Ideal S1x256x1024 .f32) (ix3 0 r l) = (m ((c : Thread nD τ).loc main_arg4) : Vec Ideal S1x1024x1024 .f32) (ix3 0 (row t r) l) := by
  refine ⟨?_, ?_, ?_, ?_, ?_⟩
  · blk_ext [iblk, index t, V_main_arg0, row]
  · blk_ext [iblk, index t, V_main_arg1, halfRow]
  · blk_ext [iblk, index t, V_main_arg2, halfRow]
  · blk_ext [iblk, index t, V_main_arg3, row]
  · blk_ext [iblk, index t, V_main_arg4, row]

/-- The gradient's entry in a band is the reference's: the chosen half is the one in which the whole array's row lies. -/
theorem grad (c : Dev nD) (t : Fin cfg0.N) (r : Fin 256) (l : Fin 1024) :
    k0_pay6 (F := Ideal) (grid0.coords t) ((iblk m c 0 t : Vec Ideal S1 .i32) (ix1 0)) (iblk m c 2 t) (iblk m c 3 t) (ix2 r l)
      = val_main_v5 (F := Ideal) (m ((c : Thread nD τ).loc main_arg1)) (m ((c : Thread nD τ).loc main_arg2)) (m ((c : Thread nD τ).loc main_arg5)) (ix3 0 (row t r) l) := by
  obtain ⟨-, a, b, -⟩ := bands m c t r l
  rw [half_eq, word, ite_apply, a, b]
  pointwise [val_main_v5, val_main_v4, val_main_v3, val_main_v2, val_main_c_0, val_main_v1, val_main_v0, val_main_c]
  have hN : t.val < 4 := t.isLt
  by_cases h : (row t r).val < 512
  · have e : t.val / 2 = 0 := by simp only [row] at h; omega
    have p : (⟨(row t r).val, h⟩ : Fin 512) = halfRow t r := Fin.ext (by simp only [row, halfRow]; omega)
    simp only [dif_pos h, e, p, select_swap]
  · have e : t.val / 2 = 1 := by simp only [row] at h; omega
    have p : (⟨(row t r).val - 512, by omega⟩ : Fin 512) = halfRow t r := Fin.ext (by simp only [row, halfRow]; omega)
    simp only [dif_neg h, e, p, select_swap]

/-- The gradient, the change and the two moments that the kernel leaves are those of the reference: all four are read off entry
    by entry, and an entry of a band is an entry of the whole array. -/
theorem value_eq (c : Dev nD) :
    (dats m 0 c).arrAt 6 cfg0.N = val_main_v5 (F := Ideal) (m ((c : Thread nD τ).loc main_arg1)) (m ((c : Thread nD τ).loc main_arg2)) (m ((c : Thread nD τ).loc main_arg5))
    ∧ (dats m 0 c).arrAt 7 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ (dats m 0 c).arrAt 8 cfg0.N = val_main_v10 (F := Ideal) (m ((c : Thread nD τ).loc main_arg1)) (m ((c : Thread nD τ).loc main_arg2)) (m ((c : Thread nD τ).loc main_arg3)) (m ((c : Thread nD τ).loc main_arg5))
    ∧ (dats m 0 c).arrAt 9 cfg0.N = val_main_v16 (F := Ideal) (m ((c : Thread nD τ).loc main_arg1)) (m ((c : Thread nD τ).loc main_arg2)) (m ((c : Thread nD τ).loc main_arg4)) (m ((c : Thread nD τ).loc main_arg5)) := by
  refine ⟨(dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_,
    (dats m 0 c).arrAt_eq_of_covers 9 _ (by decide +kernel) fun t _ y => ?_⟩
  all_goals
    blk_simp
    first | rw [after0_6] | rw [after0_7] | rw [after0_8] | rw [after0_9]
    unfold outsAt0
    frame_out
    obtain ⟨a, r, l, rfl⟩ : ∃ (a : Fin 1) (r : Fin 256) (l : Fin 1024), y = ix3 a r l := ⟨y 0, y 1, y 2, eq_ix3 y⟩
    obtain rfl : a = 0 := Subsingleton.elim _ _
    refine Eq.trans ?_ (congrArg _ (show _ = ix3 0 (row t r) l by blk_ext [index t, row])).symm
    obtain ⟨w, -, -, f, s⟩ := bands m c t r l
    have g := grad m c t r l
    pointwise [k0_pay1, k0_pay2, k0_pay3, k0_pay4, k0_pay5, k0_pay7, k0_pay8, k0_pay9, k0_pay10, k0_pay11, val_main_v29, val_main_v28, val_main_cst_8, val_main_v27, val_main_v26, val_main_v25, val_main_cst_7, val_main_v24, val_main_v23, val_main_v22, val_main_cst_6, val_main_v21, val_main_v20, val_main_v19, val_main_cst_5, val_main_v18, val_main_v17, val_main_cst_4, val_main_v16, val_main_v15, val_main_v14, val_main_cst_3, val_main_v13, val_main_v12, val_main_v11, val_main_cst_2, val_main_v10, val_main_v9, val_main_v8, val_main_cst_1, val_main_v7, val_main_v6, val_main_cst]
    simp only [w, g, f, s]

/-- From any memory, kernel and reference end with the same four arrays. -/
theorem algebraic : Cert.algebraic_Kernel22Ideal_Reference22Ideal := by
  pair_intro
  · run_from Value.run_blocks m g
  · run_from Cert.Reference22Ideal.Value.run m' g'
    · rw [(value_eq m c).1, val_main_v5_eq]; simp only [hagree c]
    · rw [(value_eq m c).2.1, val_main_v29_eq]; simp only [hagree c]
    · rw [(value_eq m c).2.2.1, val_main_v10_eq]; simp only [hagree c]
    · rw [(value_eq m c).2.2.2, val_main_v16_eq]; simp only [hagree c]

end Cert.AdamFf

end
-- ==== Proof.ModPart.lean ====
/-
  The modulation's product: every item of the batch, its conditioning gated, times the modulation weight, plus the
  bias.  One grid point makes 512 columns.
-/
module

public import proofs.«01_k».proof.Defs
public import proofs.«01_k».proof.Proof.Gen.Kernel23Ideal.Value
public import proofs.«01_k».proof.Proof.Gen.Reference23Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.ModPart

open Cert.Kernel23Ideal Cert.Kernel23Ideal.Gen

variable (m : (ℓ : Loc nD τ sig) → Buf (Elt Ideal) ℓ)

/-- The blocks of a grid point: the whole conditioning, and a band of columns of everything else. -/
theorem index (t : Fin cfg0.N) : win0_0.index t = ![0, 0] ∧ win0_1.index t = ![0, t.val] ∧ win0_2.index t = ![0, t.val]
    ∧ win0_3.index t = ![0, t.val] := by
  revert t; decide +kernel

/-- The column of the arrays that is column `l` of a grid point's block. -/
def col (t : Fin cfg0.N) (l : Fin 512) : Fin 1536 := ⟨t.val * 512 + l.val, by have h : t.val < 3 := t.isLt; omega⟩

/-- The array the kernel leaves is the array the reference leaves. -/
theorem value_eq (c : Dev nD) : (dats m 0 c).arrAt 3 cfg0.N
    = Cert.Reference23Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨i, l, rfl⟩ : ∃ (i : Fin 8) (l : Fin 512), y = ix2 i l := ⟨y 0, y 1, eq_ix2 y⟩
  have place : ((cfg0.win 3).blk t).view.emb (ix2 i l) = ix2 i (col t l) := by
    blk_ext [index t, col]
  have cond : iblk m c 0 t = m ((c : Thread nD τ).loc main_arg0) := by
    blk_ext! [iblk, index t, V_main_arg0]
  have bias : (iblk m c 2 t : Vec Ideal S1x512 .f32) (ix2 0 l) = (m ((c : Thread nD τ).loc main_arg2) : Vec Ideal S1x1536 .f32) (ix2 0 (col t l)) := by
    blk_ext [iblk, index t, col, V_main_arg2]
  have weight : ∀ k : Fin 1024, (iblk m c 1 t : Vec Ideal S1024x512 .f32) (ix2 k l) = (m ((c : Thread nD τ).loc main_arg1) : Vec Ideal S1024x1536 .f32) (ix2 k (col t l)) := fun k => by
    blk_ext [iblk, index t, col, V_main_arg1]
  refine Eq.trans ?_ (congrArg _ place).symm
  frame_out
  rw [cond]
  open Cert.Reference23Ideal.Read in
  pointwise [k0_pay1, val_main_v3, val_main_v2, val_main_v1, val_main_v0, val_main_call0_v5, val_main_call0_v4, val_main_call0_cst_0, val_main_call0_v3, val_main_call0_v2, val_main_call0_cst, val_main_call0_v1, val_main_call0_v0]
  simp only [zero_sub, weight, bias]

/-- From any memory, kernel and reference end with the same array. -/
theorem algebraic : Cert.algebraic_Kernel23Ideal_Reference23Ideal := by
  pair_intro
  · run_from Value.run_blocks m g
  · run_from Cert.Reference23Ideal.Value.run m' g'
    rw [value_eq]
    exact (Cert.Reference23Ideal.Read.val_main_v3_eq (F := Ideal) _ _ _).symm

end Cert.ModPart

end
-- ==== Proof.lean ====
/-
  The claims, assembled: for every program its frame, for every kernel that its ideal program is its own text, and for
  the kernels that have a reference the equation of the values, proved in the kernel's own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.DAct
public import proofs.«01_k».proof.Proof.DwFfOut
public import proofs.«01_k».proof.Proof.DwFfIn
public import proofs.«01_k».proof.Proof.DH2
public import proofs.«01_k».proof.Proof.ConvBwd
public import proofs.«01_k».proof.Proof.DyMixAtt
public import proofs.«01_k».proof.Proof.Head
public import proofs.«01_k».proof.Proof.DwOut
public import proofs.«01_k».proof.Proof.DyMix
public import proofs.«01_k».proof.Proof.DwIn
public import proofs.«01_k».proof.Proof.Proj
public import proofs.«01_k».proof.Proof.FfIn
public import proofs.«01_k».proof.Proof.OutProj
public import proofs.«01_k».proof.Proof.Adam
public import proofs.«01_k».proof.Proof.AdamIn
public import proofs.«01_k».proof.Proof.WAdaGrad
public import proofs.«01_k».proof.Proof.AdamConv
public import proofs.«01_k».proof.Proof.AdamOut
public import proofs.«01_k».proof.Proof.AdamFf
public import proofs.«01_k».proof.Proof.ModPart
public import Idealize.ShloMosaic.Adequacy
public import Idealize.ShloMosaic.Init
public import proofs.«01_k».proof.Pre_finite5
public import proofs.«01_k».proof.Pre_finite6
public import proofs.«01_k».proof.Pre_finite9

@[expose] public section

noncomputable section

namespace Cert.Proof

open Idealize.ShloMosaic Idealize.SL.Sem Cert.Kernel

/-- The reference runs, leaves its arguments as they were and has no counters. -/
theorem frame_2 : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

/-- The reference runs, leaves its arguments as they were and has no counters. -/
theorem frame_3 : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-- The reference runs, leaves its arguments as they were and has no counters. -/
theorem frame_4 : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

/-- The reference runs, leaves its arguments as they were and has no counters. -/
theorem frame_5 : Cert.quiescent_Reference5Ideal := fun m ρ _ =>
  (θ_run _ _ _).mono (fun r h => ⟨fun c => (h c).2.2.2.2.2.2.2, sem_eq_zero_of_no_sems (by decide) r.2⟩)
    (Cert.Reference5Ideal.Value.run (F := Ideal) m ρ)

/-- The reference runs, leaves its arguments as they were and has no counters. -/
theorem frame_6 : Cert.quiescent_Reference6Ideal := fun m ρ _ =>
  (θ_run _ _ _).mono (fun r h => ⟨fun c => (h c).2.2.2, sem_eq_zero_of_no_sems (by decide) r.2⟩)
    (Cert.Reference6Ideal.Value.run (F := Ideal) m ρ)

/-- The reference runs, leaves its arguments as they were and has no counters. -/
theorem frame_8 : Cert.quiescent_Reference8Ideal := fun m ρ _ =>
  (θ_run _ _ _).mono (fun r h => ⟨fun c => (h c).2.2, sem_eq_zero_of_no_sems (by decide) r.2⟩)
    (Cert.Reference8Ideal.Value.run (F := Ideal) m ρ)

/-- The reference runs, leaves its arguments as they were and has no counters. -/
theorem frame_9 : Cert.quiescent_Reference9Ideal := fun m ρ _ =>
  (θ_run _ _ _).mono (fun r h => ⟨fun c => (h c).2.2.2.2.2.2, sem_eq_zero_of_no_sems (by decide) r.2⟩)
    (Cert.Reference9Ideal.Value.run (F := Ideal) m ρ)

/-- The reference runs, leaves its arguments as they were and has no counters. -/
theorem frame_10 : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

/-- The reference runs, leaves its arguments as they were and has no counters. -/
theorem frame_11 : Cert.quiescent_Reference11Ideal := fun m ρ _ =>
  (θ_run _ _ _).mono (fun r h => ⟨fun c => (h c).2, sem_eq_zero_of_no_sems (by decide) r.2⟩)
    (Cert.Reference11Ideal.Value.run (F := Ideal) m ρ)

/-- The reference runs, leaves its arguments as they were and has no counters. -/
theorem frame_12 : Cert.quiescent_Reference12Ideal := fun m ρ _ =>
  (θ_run _ _ _).mono (fun r h => ⟨fun c => (h c).2, sem_eq_zero_of_no_sems (by decide) r.2⟩)
    (Cert.Reference12Ideal.Value.run (F := Ideal) m ρ)

/-- The reference runs, leaves its arguments as they were and has no counters. -/
theorem frame_13 : Cert.quiescent_Reference13Ideal := fun m ρ _ =>
  (θ_run _ _ _).mono (fun r h => ⟨fun c => (h c).2, sem_eq_zero_of_no_sems (by decide) r.2⟩)
    (Cert.Reference13Ideal.Value.run (F := Ideal) m ρ)

/-- The reference runs, leaves its arguments as they were and has no counters. -/
theorem frame_14 : Cert.quiescent_Reference14Ideal := fun m ρ _ =>
  (θ_run _ _ _).mono (fun r h => ⟨fun c => (h c).2.2, sem_eq_zero_of_no_sems (by decide) r.2⟩)
    (Cert.Reference14Ideal.Value.run (F := Ideal) m ρ)

/-- The reference runs, leaves its arguments as they were and has no counters. -/
theorem frame_15 : Cert.quiescent_Reference15Ideal := fun m ρ _ =>
  (θ_run _ _ _).mono (fun r h => ⟨fun c => (h c).2.2.2.2, sem_eq_zero_of_no_sems (by decide) r.2⟩)
    (Cert.Reference15Ideal.Value.run (F := Ideal) m ρ)

/-- The reference runs, leaves its arguments as they were and has no counters. -/
theorem frame_17 : Cert.quiescent_Reference17Ideal := fun m ρ _ =>
  (θ_run _ _ _).mono (fun r h => ⟨fun c => (h c).2.2.2.2, sem_eq_zero_of_no_sems (by decide) r.2⟩)
    (Cert.Reference17Ideal.Value.run (F := Ideal) m ρ)

/-- The reference runs, leaves its arguments as they were and has no counters. -/
theorem frame_18 : Cert.quiescent_Reference18Ideal := fun m ρ _ =>
  (θ_run _ _ _).mono (fun r h => ⟨fun c => (h c).2.2.2.2, sem_eq_zero_of_no_sems (by decide) r.2⟩)
    (Cert.Reference18Ideal.Value.run (F := Ideal) m ρ)

/-- The reference runs, leaves its arguments as they were and has no counters. -/
theorem frame_19 : Cert.quiescent_Reference19Ideal := fun m ρ _ =>
  (θ_run _ _ _).mono (fun r h => ⟨fun c => (h c).2, sem_eq_zero_of_no_sems (by decide) r.2⟩)
    (Cert.Reference19Ideal.Value.run (F := Ideal) m ρ)

/-- The reference runs, leaves its arguments as they were and has no counters. -/
theorem frame_20 : Cert.quiescent_Reference20Ideal := fun m ρ _ =>
  (θ_run _ _ _).mono (fun r h => ⟨fun c => (h c).2.2.2.2, sem_eq_zero_of_no_sems (by decide) r.2⟩)
    (Cert.Reference20Ideal.Value.run (F := Ideal) m ρ)

/-- The reference runs, leaves its arguments as they were and has no counters. -/
theorem frame_21 : Cert.quiescent_Reference21Ideal := fun m ρ _ =>
  (θ_run _ _ _).mono (fun r h => ⟨fun c => (h c).2.2.2.2, sem_eq_zero_of_no_sems (by decide) r.2⟩)
    (Cert.Reference21Ideal.Value.run (F := Ideal) m ρ)

/-- The reference runs, leaves its arguments as they were and has no counters. -/
theorem frame_22 : Cert.quiescent_Reference22Ideal := fun m ρ _ =>
  (θ_run _ _ _).mono (fun r h => ⟨fun c => (h c).2.2.2.2, sem_eq_zero_of_no_sems (by decide) r.2⟩)
    (Cert.Reference22Ideal.Value.run (F := Ideal) m ρ)

/-- The reference runs, leaves its arguments as they were and has no counters. -/
theorem frame_23 : Cert.quiescent_Reference23Ideal := fun m ρ _ =>
  (θ_run _ _ _).mono (fun r h => ⟨fun c => (h c).2, sem_eq_zero_of_no_sems (by decide) r.2⟩)
    (Cert.Reference23Ideal.Value.run (F := Ideal) m ρ)

/-- All claims together. -/
theorem claim : Cert.Claim :=
  ⟨Cert.Kernel.Gen.facts, Cert.KernelIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Kernel21.Gen.facts,
    Cert.Kernel21Ideal.Gen.facts, Cert.Reference21Ideal.Gen.facts, Cert.Kernel22.Gen.facts,
    Cert.Kernel22Ideal.Gen.facts, Cert.Reference22Ideal.Gen.facts, Cert.Kernel23.Gen.facts,
    Cert.Kernel23Ideal.Gen.facts, Cert.Reference23Ideal.Gen.facts, Cert.DH2.preFacts,
    Cert.ConvBwd.preFacts, Cert.Head.preFacts,
    fun m ρ _ => Cert.Kernel.Gen.frame m ρ,
    fun m ρ _ => Cert.KernelIdeal.Gen.frame m ρ,
    fun m ρ _ => Cert.Kernel2.Gen.frame m ρ,
    fun m ρ _ => Cert.Kernel2Ideal.Gen.frame m ρ,
    frame_2,
    fun m ρ _ => Cert.Kernel3.Gen.frame m ρ,
    fun m ρ _ => Cert.Kernel3Ideal.Gen.frame m ρ,
    frame_3,
    fun m ρ _ => Cert.Kernel4.Gen.frame m ρ,
    fun m ρ _ => Cert.Kernel4Ideal.Gen.frame m ρ,
    frame_4,
    fun m ρ _ => Cert.Kernel5.Gen.frame m ρ,
    fun m ρ _ => Cert.Kernel5Ideal.Gen.frame m ρ,
    fun m ρ _ => Cert.Kernel5Ideal.Gen.frame m ρ,
    frame_5,
    fun m ρ _ => frame_5 m ρ trivial,
    fun m ρ _ => Cert.Kernel6.Gen.frame m ρ,
    fun m ρ _ => Cert.Kernel6Ideal.Gen.frame m ρ,
    fun m ρ _ => Cert.Kernel6Ideal.Gen.frame m ρ,
    frame_6,
    fun m ρ _ => frame_6 m ρ trivial,
    fun m ρ _ => Cert.Kernel8.Gen.frame m ρ,
    fun m ρ _ => Cert.Kernel8Ideal.Gen.frame m ρ,
    frame_8,
    fun m ρ _ => Cert.Kernel9.Gen.frame m ρ,
    fun m ρ _ => Cert.Kernel9Ideal.Gen.frame m ρ,
    fun m ρ _ => Cert.Kernel9Ideal.Gen.frame m ρ,
    frame_9,
    fun m ρ _ => frame_9 m ρ trivial,
    fun m ρ _ => Cert.Kernel10.Gen.frame m ρ,
    fun m ρ _ => Cert.Kernel10Ideal.Gen.frame m ρ,
    frame_10,
    fun m ρ _ => Cert.Kernel11.Gen.frame m ρ,
    fun m ρ _ => Cert.Kernel11Ideal.Gen.frame m ρ,
    frame_11,
    fun m ρ _ => Cert.Kernel12.Gen.frame m ρ,
    fun m ρ _ => Cert.Kernel12Ideal.Gen.frame m ρ,
    frame_12,
    fun m ρ _ => Cert.Kernel13.Gen.frame m ρ,
    fun m ρ _ => Cert.Kernel13Ideal.Gen.frame m ρ,
    frame_13,
    fun m ρ _ => Cert.Kernel14.Gen.frame m ρ,
    fun m ρ _ => Cert.Kernel14Ideal.Gen.frame m ρ,
    frame_14,
    fun m ρ _ => Cert.Kernel15.Gen.frame m ρ,
    fun m ρ _ => Cert.Kernel15Ideal.Gen.frame m ρ,
    frame_15,
    fun m ρ _ => Cert.Kernel17.Gen.frame m ρ,
    fun m ρ _ => Cert.Kernel17Ideal.Gen.frame m ρ,
    frame_17,
    fun m ρ _ => Cert.Kernel18.Gen.frame m ρ,
    fun m ρ _ => Cert.Kernel18Ideal.Gen.frame m ρ,
    frame_18,
    fun m ρ _ => Cert.Kernel19.Gen.frame m ρ,
    fun m ρ _ => Cert.Kernel19Ideal.Gen.frame m ρ,
    frame_19,
    fun m ρ _ => Cert.Kernel20.Gen.frame m ρ,
    fun m ρ _ => Cert.Kernel20Ideal.Gen.frame m ρ,
    frame_20,
    fun m ρ _ => Cert.Kernel21.Gen.frame m ρ,
    fun m ρ _ => Cert.Kernel21Ideal.Gen.frame m ρ,
    frame_21,
    fun m ρ _ => Cert.Kernel22.Gen.frame m ρ,
    fun m ρ _ => Cert.Kernel22Ideal.Gen.frame m ρ,
    frame_22,
    fun m ρ _ => Cert.Kernel23.Gen.frame m ρ,
    fun m ρ _ => Cert.Kernel23Ideal.Gen.frame m ρ,
    frame_23,
    trivial,
    trivial,
    Cert.DAct.algebraic,
    trivial,
    Cert.DwFfOut.algebraic,
    trivial,
    Cert.DwFfIn.algebraic,
    trivial,
    Cert.DH2.algebraic,
    trivial,
    Cert.ConvBwd.algebraic,
    trivial,
    Cert.DyMixAtt.algebraic,
    trivial,
    Cert.Head.algebraic,
    trivial,
    Cert.DwOut.algebraic,
    trivial,
    Cert.DyMix.algebraic,
    trivial,
    Cert.DwIn.algebraic,
    trivial,
    Cert.Proj.algebraic,
    trivial,
    Cert.FfIn.algebraic,
    trivial,
    Cert.OutProj.algebraic,
    trivial,
    Cert.Adam.algebraic,
    trivial,
    Cert.AdamIn.algebraic,
    trivial,
    Cert.WAdaGrad.algebraic,
    trivial,
    Cert.AdamConv.algebraic,
    trivial,
    Cert.AdamOut.algebraic,
    trivial,
    Cert.AdamFf.algebraic,
    trivial,
    Cert.ModPart.algebraic⟩

end Cert.Proof

end
